-- ==== Defs.lean ====
def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KRet (m : (ℓ : Loc Cert.KRet.nD Cert.KRet.τ Cert.KRet.sig) → Buf (Elt Bits) ℓ) : Prop :=
  True

def Pre_KRetIdeal (m : (ℓ : Loc Cert.KRetIdeal.nD Cert.KRetIdeal.τ Cert.KRetIdeal.sig) → Buf (Elt Ideal) ℓ) : Prop :=
  True

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2)
      ∧ r.2.mem ((c.tc : Thread Cert.KIn.nD Cert.KIn.τ).loc Cert.KIn.main_arg3) = m ((c.tc : Thread Cert.KIn.nD Cert.KIn.τ).loc Cert.KIn.main_arg3)
      ∧ r.2.mem ((c.tc : Thread Cert.KIn.nD Cert.KIn.τ).loc Cert.KIn.main_arg4) = m ((c.tc : Thread Cert.KIn.nD Cert.KIn.τ).loc Cert.KIn.main_arg4))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4)
      ∧ r.2.mem ((c.tc : Thread Cert.KOut.nD Cert.KOut.τ).loc Cert.KOut.main_arg5) = m ((c.tc : Thread Cert.KOut.nD Cert.KOut.τ).loc Cert.KOut.main_arg5)
      ∧ r.2.mem ((c.tc : Thread Cert.KOut.nD Cert.KOut.τ).loc Cert.KOut.main_arg6) = m ((c.tc : Thread Cert.KOut.nD Cert.KOut.τ).loc Cert.KOut.main_arg6)
      ∧ r.2.mem ((c.tc : Thread Cert.KOut.nD Cert.KOut.τ).loc Cert.KOut.main_arg7) = m ((c.tc : Thread Cert.KOut.nD Cert.KOut.τ).loc Cert.KOut.main_arg7)
      ∧ r.2.mem ((c.tc : Thread Cert.KOut.nD Cert.KOut.τ).loc Cert.KOut.main_arg8) = m ((c.tc : Thread Cert.KOut.nD Cert.KOut.τ).loc Cert.KOut.main_arg8))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
      ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
      ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
      ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7)
      ∧ r.2.mem ((c.tc : Thread Cert.KOutIdeal.nD Cert.KOutIdeal.τ).loc Cert.KOutIdeal.main_arg8) = m ((c.tc : Thread Cert.KOutIdeal.nD Cert.KOutIdeal.τ).loc Cert.KOutIdeal.main_arg8))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4)
      ∧ r.2.mem ((c.tc : Thread Cert.ROutIdeal.nD Cert.ROutIdeal.τ).loc Cert.ROutIdeal.main_arg5) = m ((c.tc : Thread Cert.ROutIdeal.nD Cert.ROutIdeal.τ).loc Cert.ROutIdeal.main_arg5)
      ∧ r.2.mem ((c.tc : Thread Cert.ROutIdeal.nD Cert.ROutIdeal.τ).loc Cert.ROutIdeal.main_arg6) = m ((c.tc : Thread Cert.ROutIdeal.nD Cert.ROutIdeal.τ).loc Cert.ROutIdeal.main_arg6)
      ∧ r.2.mem ((c.tc : Thread Cert.ROutIdeal.nD Cert.ROutIdeal.τ).loc Cert.ROutIdeal.main_arg7) = m ((c.tc : Thread Cert.ROutIdeal.nD Cert.ROutIdeal.τ).loc Cert.ROutIdeal.main_arg7)
      ∧ r.2.mem ((c.tc : Thread Cert.ROutIdeal.nD Cert.ROutIdeal.τ).loc Cert.ROutIdeal.main_arg8) = m ((c.tc : Thread Cert.ROutIdeal.nD Cert.ROutIdeal.τ).loc Cert.ROutIdeal.main_arg8))
      ∧ r.2.sem = fun _ => 0)

def quiescent_KRet [hKRet : Cert.KRet.Facts] : Prop :=
  ∀ (m : (ℓ : Loc Cert.KRet.nD Cert.KRet.τ Cert.KRet.sig) → Buf (Elt Bits) ℓ) (g : Dev Cert.KRet.nD → PrngReg), Pre_KRet m →
    θ_run (Cert.KRet.defs (F := Bits)) (onTc (τ := Cert.KRet.τ) (Cert.KRet.main (F := Bits))) ⟨m, fun _ => 0, g⟩ (fun r => (∀ c : Dev Cert.KRet.nD,
      r.2.mem ((c.tc : Thread Cert.KRet.nD Cert.KRet.τ).loc Cert.KRet.main_arg0) = m ((c.tc : Thread Cert.KRet.nD Cert.KRet.τ).loc Cert.KRet.main_arg0)
      ∧ r.2.mem ((c.tc : Thread Cert.KRet.nD Cert.KRet.τ).loc Cert.KRet.main_arg1) = m ((c.tc : Thread Cert.KRet.nD Cert.KRet.τ).loc Cert.KRet.main_arg1)
      ∧ r.2.mem ((c.tc : Thread Cert.KRet.nD Cert.KRet.τ).loc Cert.KRet.main_arg2) = m ((c.tc : Thread Cert.KRet.nD Cert.KRet.τ).loc Cert.KRet.main_arg2)
      ∧ r.2.mem ((c.tc : Thread Cert.KRet.nD Cert.KRet.τ).loc Cert.KRet.main_arg3) = m ((c.tc : Thread Cert.KRet.nD Cert.KRet.τ).loc Cert.KRet.main_arg3)
      ∧ r.2.mem ((c.tc : Thread Cert.KRet.nD Cert.KRet.τ).loc Cert.KRet.main_arg4) = m ((c.tc : Thread Cert.KRet.nD Cert.KRet.τ).loc Cert.KRet.main_arg4))
      ∧ r.2.sem = fun _ => 0)

def quiescent_KRetIdeal [hKRetIdeal : Cert.KRetIdeal.Facts] : Prop :=
  ∀ (m : (ℓ : Loc Cert.KRetIdeal.nD Cert.KRetIdeal.τ Cert.KRetIdeal.sig) → Buf (Elt Ideal) ℓ) (g : Dev Cert.KRetIdeal.nD → PrngReg), Pre_KRetIdeal m →
    θ_run (Cert.KRetIdeal.defs (F := Ideal)) (onTc (τ := Cert.KRetIdeal.τ) (Cert.KRetIdeal.main (F := Ideal))) ⟨m, fun _ => 0, g⟩ (fun r => (∀ c : Dev Cert.KRetIdeal.nD,
      r.2.mem ((c.tc : Thread Cert.KRetIdeal.nD Cert.KRetIdeal.τ).loc Cert.KRetIdeal.main_arg0) = m ((c.tc : Thread Cert.KRetIdeal.nD Cert.KRetIdeal.τ).loc Cert.KRetIdeal.main_arg0)
      ∧ r.2.mem ((c.tc : Thread Cert.KRetIdeal.nD Cert.KRetIdeal.τ).loc Cert.KRetIdeal.main_arg1) = m ((c.tc : Thread Cert.KRetIdeal.nD Cert.KRetIdeal.τ).loc Cert.KRetIdeal.main_arg1)
      ∧ r.2.mem ((c.tc : Thread Cert.KRetIdeal.nD Cert.KRetIdeal.τ).loc Cert.KRetIdeal.main_arg2) = m ((c.tc : Thread Cert.KRetIdeal.nD Cert.KRetIdeal.τ).loc Cert.KRetIdeal.main_arg2)
      ∧ r.2.mem ((c.tc : Thread Cert.KRetIdeal.nD Cert.KRetIdeal.τ).loc Cert.KRetIdeal.main_arg3) = m ((c.tc : Thread Cert.KRetIdeal.nD Cert.KRetIdeal.τ).loc Cert.KRetIdeal.main_arg3)
      ∧ r.2.mem ((c.tc : Thread Cert.KRetIdeal.nD Cert.KRetIdeal.τ).loc Cert.KRetIdeal.main_arg4) = m ((c.tc : Thread Cert.KRetIdeal.nD Cert.KRetIdeal.τ).loc Cert.KRetIdeal.main_arg4))
      ∧ r.2.sem = fun _ => 0)

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)) →
    ∃ (v0 : (c : Dev Cert.KFfnIdeal.nD) → Buf (Elt Ideal) ((c.tc : Thread Cert.KFfnIdeal.nD Cert.KFfnIdeal.τ).loc Cert.KFfnIdeal.main_v0)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v0) = v0 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v34) = v0 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)
      ∧ m' ((c.tc : Thread Cert.RInIdeal.nD Cert.RInIdeal.τ).loc Cert.RInIdeal.main_arg3) = m ((c.tc : Thread Cert.KInIdeal.nD Cert.KInIdeal.τ).loc Cert.KInIdeal.main_arg3)
      ∧ m' ((c.tc : Thread Cert.RInIdeal.nD Cert.RInIdeal.τ).loc Cert.RInIdeal.main_arg4) = m ((c.tc : Thread Cert.KInIdeal.nD Cert.KInIdeal.τ).loc Cert.KInIdeal.main_arg4)) →
    ∃ (v0 : (c : Dev Cert.KInIdeal.nD) → Buf (Elt Ideal) ((c.tc : Thread Cert.KInIdeal.nD Cert.KInIdeal.τ).loc Cert.KInIdeal.main_v25_0)) (v1 : (c : Dev Cert.KInIdeal.nD) → Buf (Elt Ideal) ((c.tc : Thread Cert.KInIdeal.nD Cert.KInIdeal.τ).loc Cert.KInIdeal.main_v25_1)) (v2 : (c : Dev Cert.KInIdeal.nD) → Buf (Elt Ideal) ((c.tc : Thread Cert.KInIdeal.nD Cert.KInIdeal.τ).loc Cert.KInIdeal.main_v25_2)) (v3 : (c : Dev Cert.KInIdeal.nD) → Buf (Elt Ideal) ((c.tc : Thread Cert.KInIdeal.nD Cert.KInIdeal.τ).loc Cert.KInIdeal.main_v25_3)) (v4 : (c : Dev Cert.KInIdeal.nD) → Buf (Elt Ideal) ((c.tc : Thread Cert.KInIdeal.nD Cert.KInIdeal.τ).loc Cert.KInIdeal.main_v25_4)) (v5 : (c : Dev Cert.KInIdeal.nD) → Buf (Elt Ideal) ((c.tc : Thread Cert.KInIdeal.nD Cert.KInIdeal.τ).loc Cert.KInIdeal.main_v25_5)) (v6 : (c : Dev Cert.KInIdeal.nD) → Buf (Elt Ideal) ((c.tc : Thread Cert.KInIdeal.nD Cert.KInIdeal.τ).loc Cert.KInIdeal.main_v25_6)) (v7 : (c : Dev Cert.KInIdeal.nD) → Buf (Elt Ideal) ((c.tc : Thread Cert.KInIdeal.nD Cert.KInIdeal.τ).loc Cert.KInIdeal.main_v25_7)) (v8 : (c : Dev Cert.KInIdeal.nD) → Buf (Elt Ideal) ((c.tc : Thread Cert.KInIdeal.nD Cert.KInIdeal.τ).loc Cert.KInIdeal.main_v25_8)) (v9 : (c : Dev Cert.KInIdeal.nD) → Buf (Elt Ideal) ((c.tc : Thread Cert.KInIdeal.nD Cert.KInIdeal.τ).loc Cert.KInIdeal.main_v25_9)) (v10 : (c : Dev Cert.KInIdeal.nD) → Buf (Elt Ideal) ((c.tc : Thread Cert.KInIdeal.nD Cert.KInIdeal.τ).loc Cert.KInIdeal.main_v25_10)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v25_0) = v0 c
          ∧ r.2.mem ((c.tc : Thread Cert.KInIdeal.nD Cert.KInIdeal.τ).loc Cert.KInIdeal.main_v25_1) = v1 c
          ∧ r.2.mem ((c.tc : Thread Cert.KInIdeal.nD Cert.KInIdeal.τ).loc Cert.KInIdeal.main_v25_2) = v2 c
          ∧ r.2.mem ((c.tc : Thread Cert.KInIdeal.nD Cert.KInIdeal.τ).loc Cert.KInIdeal.main_v25_3) = v3 c
          ∧ r.2.mem ((c.tc : Thread Cert.KInIdeal.nD Cert.KInIdeal.τ).loc Cert.KInIdeal.main_v25_4) = v4 c
          ∧ r.2.mem ((c.tc : Thread Cert.KInIdeal.nD Cert.KInIdeal.τ).loc Cert.KInIdeal.main_v25_5) = v5 c
          ∧ r.2.mem ((c.tc : Thread Cert.KInIdeal.nD Cert.KInIdeal.τ).loc Cert.KInIdeal.main_v25_6) = v6 c
          ∧ r.2.mem ((c.tc : Thread Cert.KInIdeal.nD Cert.KInIdeal.τ).loc Cert.KInIdeal.main_v25_7) = v7 c
          ∧ r.2.mem ((c.tc : Thread Cert.KInIdeal.nD Cert.KInIdeal.τ).loc Cert.KInIdeal.main_v25_8) = v8 c
          ∧ r.2.mem ((c.tc : Thread Cert.KInIdeal.nD Cert.KInIdeal.τ).loc Cert.KInIdeal.main_v25_9) = v9 c
          ∧ r.2.mem ((c.tc : Thread Cert.KInIdeal.nD Cert.KInIdeal.τ).loc Cert.KInIdeal.main_v25_10) = v10 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
          ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
          ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v90) = v0 c
          ∧ r.2.mem ((c.tc : Thread Cert.RInIdeal.nD Cert.RInIdeal.τ).loc Cert.RInIdeal.main_v93) = v1 c
          ∧ r.2.mem ((c.tc : Thread Cert.RInIdeal.nD Cert.RInIdeal.τ).loc Cert.RInIdeal.main_v98) = v2 c
          ∧ r.2.mem ((c.tc : Thread Cert.RInIdeal.nD Cert.RInIdeal.τ).loc Cert.RInIdeal.main_v104) = v3 c
          ∧ r.2.mem ((c.tc : Thread Cert.RInIdeal.nD Cert.RInIdeal.τ).loc Cert.RInIdeal.main_v111) = v4 c
          ∧ r.2.mem ((c.tc : Thread Cert.RInIdeal.nD Cert.RInIdeal.τ).loc Cert.RInIdeal.main_v116) = v5 c
          ∧ r.2.mem ((c.tc : Thread Cert.RInIdeal.nD Cert.RInIdeal.τ).loc Cert.RInIdeal.main_v121) = v6 c
          ∧ r.2.mem ((c.tc : Thread Cert.RInIdeal.nD Cert.RInIdeal.τ).loc Cert.RInIdeal.main_v122) = v7 c
          ∧ r.2.mem ((c.tc : Thread Cert.RInIdeal.nD Cert.RInIdeal.τ).loc Cert.RInIdeal.main_v123) = v8 c
          ∧ r.2.mem ((c.tc : Thread Cert.RInIdeal.nD Cert.RInIdeal.τ).loc Cert.RInIdeal.main_v124) = v9 c
          ∧ r.2.mem ((c.tc : Thread Cert.RInIdeal.nD Cert.RInIdeal.τ).loc Cert.RInIdeal.main_v125) = v10 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2)
          ∧ r.2.mem ((c.tc : Thread Cert.RInIdeal.nD Cert.RInIdeal.τ).loc Cert.RInIdeal.main_arg3) = m' ((c.tc : Thread Cert.RInIdeal.nD Cert.RInIdeal.τ).loc Cert.RInIdeal.main_arg3)
          ∧ r.2.mem ((c.tc : Thread Cert.RInIdeal.nD Cert.RInIdeal.τ).loc Cert.RInIdeal.main_arg4) = m' ((c.tc : Thread Cert.RInIdeal.nD Cert.RInIdeal.τ).loc Cert.RInIdeal.main_arg4))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)
      ∧ m' ((c.tc : Thread Cert.ROutIdeal.nD Cert.ROutIdeal.τ).loc Cert.ROutIdeal.main_arg5) = m ((c.tc : Thread Cert.KOutIdeal.nD Cert.KOutIdeal.τ).loc Cert.KOutIdeal.main_arg5)
      ∧ m' ((c.tc : Thread Cert.ROutIdeal.nD Cert.ROutIdeal.τ).loc Cert.ROutIdeal.main_arg6) = m ((c.tc : Thread Cert.KOutIdeal.nD Cert.KOutIdeal.τ).loc Cert.KOutIdeal.main_arg6)
      ∧ m' ((c.tc : Thread Cert.ROutIdeal.nD Cert.ROutIdeal.τ).loc Cert.ROutIdeal.main_arg7) = m ((c.tc : Thread Cert.KOutIdeal.nD Cert.KOutIdeal.τ).loc Cert.KOutIdeal.main_arg7)
      ∧ m' ((c.tc : Thread Cert.ROutIdeal.nD Cert.ROutIdeal.τ).loc Cert.ROutIdeal.main_arg8) = m ((c.tc : Thread Cert.KOutIdeal.nD Cert.KOutIdeal.τ).loc Cert.KOutIdeal.main_arg8)) →
    ∃ (v0 : (c : Dev Cert.KOutIdeal.nD) → Buf (Elt Ideal) ((c.tc : Thread Cert.KOutIdeal.nD Cert.KOutIdeal.τ).loc Cert.KOutIdeal.main_v0)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v0) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
          ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
          ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
          ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7)
          ∧ r.2.mem ((c.tc : Thread Cert.KOutIdeal.nD Cert.KOutIdeal.τ).loc Cert.KOutIdeal.main_arg8) = m ((c.tc : Thread Cert.KOutIdeal.nD Cert.KOutIdeal.τ).loc Cert.KOutIdeal.main_arg8))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v41) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4)
          ∧ r.2.mem ((c.tc : Thread Cert.ROutIdeal.nD Cert.ROutIdeal.τ).loc Cert.ROutIdeal.main_arg5) = m' ((c.tc : Thread Cert.ROutIdeal.nD Cert.ROutIdeal.τ).loc Cert.ROutIdeal.main_arg5)
          ∧ r.2.mem ((c.tc : Thread Cert.ROutIdeal.nD Cert.ROutIdeal.τ).loc Cert.ROutIdeal.main_arg6) = m' ((c.tc : Thread Cert.ROutIdeal.nD Cert.ROutIdeal.τ).loc Cert.ROutIdeal.main_arg6)
          ∧ r.2.mem ((c.tc : Thread Cert.ROutIdeal.nD Cert.ROutIdeal.τ).loc Cert.ROutIdeal.main_arg7) = m' ((c.tc : Thread Cert.ROutIdeal.nD Cert.ROutIdeal.τ).loc Cert.ROutIdeal.main_arg7)
          ∧ r.2.mem ((c.tc : Thread Cert.ROutIdeal.nD Cert.ROutIdeal.τ).loc Cert.ROutIdeal.main_arg8) = m' ((c.tc : Thread Cert.ROutIdeal.nD Cert.ROutIdeal.τ).loc Cert.ROutIdeal.main_arg8))

def preserves_KRet_KRetIdeal : Prop :=
  True

def Claim : Prop :=
  ∃ (hKFfn : Cert.KFfn.Facts) (hKFfnIdeal : Cert.KFfnIdeal.Facts) (hRFfnIdeal : Cert.RFfnIdeal.Facts) (hKIn : Cert.KIn.Facts) (hKInIdeal : Cert.KInIdeal.Facts) (hRInIdeal : Cert.RInIdeal.Facts) (hKOut : Cert.KOut.Facts) (hKOutIdeal : Cert.KOutIdeal.Facts) (hROutIdeal : Cert.ROutIdeal.Facts) (hKRet : Cert.KRet.Facts) (hKRetIdeal : Cert.KRetIdeal.Facts),
    quiescent_KFfn (hKFfn := hKFfn)
    ∧ quiescent_KFfnIdeal (hKFfnIdeal := hKFfnIdeal)
    ∧ quiescent_RFfnIdeal (hRFfnIdeal := hRFfnIdeal)
    ∧ quiescent_KIn (hKIn := hKIn)
    ∧ quiescent_KInIdeal (hKInIdeal := hKInIdeal)
    ∧ quiescent_RInIdeal (hRInIdeal := hRInIdeal)
    ∧ quiescent_KOut (hKOut := hKOut)
    ∧ quiescent_KOutIdeal (hKOutIdeal := hKOutIdeal)
    ∧ quiescent_ROutIdeal (hROutIdeal := hROutIdeal)
    ∧ quiescent_KRet (hKRet := hKRet)
    ∧ quiescent_KRetIdeal (hKRetIdeal := hKRetIdeal)
    ∧ preserves_KFfn_KFfnIdeal
    ∧ algebraic_KFfnIdeal_RFfnIdeal (hKFfnIdeal := hKFfnIdeal) (hRFfnIdeal := hRFfnIdeal)
    ∧ preserves_KIn_KInIdeal
    ∧ algebraic_KInIdeal_RInIdeal (hKInIdeal := hKInIdeal) (hRInIdeal := hRInIdeal)
    ∧ preserves_KOut_KOutIdeal
    ∧ algebraic_KOutIdeal_ROutIdeal (hKOutIdeal := hKOutIdeal) (hROutIdeal := hROutIdeal)
    ∧ preserves_KRet_KRetIdeal
-- ==== KFfn.lean ====
abbrev S65536x1024 : Shape := ⟨2, ![65536, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 6
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RFfnIdeal.lean ====
abbrev S65536x1024 : Shape := ⟨2, ![65536, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S1024x5632, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S2816x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== KIn.lean ====
abbrev S65536x1024 : Shape := ⟨2, ![65536, 1024]⟩
abbrev S1x1024 : Shape := ⟨2, ![1, 1024]⟩
abbrev S1024x6656 : Shape := ⟨2, ![1024, 6656]⟩
abbrev S1024x5632 : Shape := ⟨2, ![1024, 5632]⟩
abbrev S2816x1024 : Shape := ⟨2, ![2816, 1024]⟩
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x128 : Shape := ⟨3, ![1, 2048, 128]⟩
abbrev S4x2048x128 : Shape := ⟨3, ![4, 2048, 128]⟩
abbrev S4x65536x128 : Shape := ⟨3, ![4, 65536, 128]⟩
abbrev S4x65536x256 : Shape := ⟨3, ![4, 65536, 256]⟩
abbrev S512x1024 : Shape := ⟨2, ![512, 1024]⟩
abbrev S4x512x128 : Shape := ⟨3, ![4, 512, 128]⟩
abbrev S16x5632 : Shape := ⟨2, ![16, 5632]⟩
abbrev S32x1024 : Shape := ⟨2, ![32, 1024]⟩
abbrev S4x512x256 : Shape := ⟨3, ![4, 512, 256]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x128 : Shape := ⟨3, ![1, 256, 128]⟩
abbrev S256x128 : Shape := ⟨2, ![256, 128]⟩
abbrev S1024x1024 : Shape := ⟨2, ![1024, 1024]⟩
abbrev S256x256 : Shape := ⟨2, ![256, 256]⟩
abbrev S1x256x256 : Shape := ⟨3, ![1, 256, 256]⟩

abbrev nBuf : Space → Nat
  | .hbm => 67
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x6656, .bf16⟩
  | .hbm, ⟨3, _⟩ => ⟨S1024x5632, .f32⟩
  | .hbm, ⟨4, _⟩ => ⟨S2816x1024, .f32⟩
  | .hbm, ⟨5, _⟩ => ⟨S2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S63, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S1, .f32⟩
  | .hbm, ⟨18, _⟩ => ⟨S_, .f32⟩
  | .hbm, ⟨19, _⟩ => ⟨S63, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S63, .f32⟩
  | .hbm, ⟨25, _⟩ => ⟨S63, .f32⟩
  | .hbm, ⟨26, _⟩ => ⟨S63, .f32⟩
  | .hbm, ⟨27, _⟩ => ⟨S1, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S2048x1, .f32⟩
  | .hbm, ⟨36, _⟩ => ⟨S1x64, .f32⟩
  | .hbm, ⟨37, _⟩ => ⟨S2048x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S2048x128, .f32⟩
  | .hbm, ⟨43, _⟩ => ⟨S2048x64, .f32⟩
  | .hbm, ⟨44, _⟩ => ⟨S2048x128, .f32⟩
  | .hbm, ⟨45, _⟩ => ⟨S_, .f32⟩
  | .hbm, ⟨46, _⟩ => ⟨S2048x128, .f32⟩
  | .hbm, ⟨47, _⟩ => ⟨S2048x128, .f32⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S1x2048x128, .f32⟩
  | .hbm, ⟨52, _⟩ => ⟨S1x2048x128, .f32⟩
  | .hbm, ⟨53, _⟩ => ⟨S1x2048x128, .f32⟩
  | .hbm, ⟨54, _⟩ => ⟨S1x2048x128, .f32⟩
  | .hbm, ⟨55, _⟩ => ⟨S4x2048x128, .f32⟩
  | .hbm, ⟨56, _⟩ => ⟨S4x65536x128, .bf16⟩
  | .hbm, ⟨57, _⟩ => ⟨S4x65536x128, .bf16⟩
  | .hbm, ⟨58, _⟩ => ⟨S4x65536x256, .bf16⟩
  | .hbm, ⟨59, _⟩ => ⟨S4x65536x256, .bf16⟩
  | .hbm, ⟨60, _⟩ => ⟨S4x65536x128, .bf16⟩
  | .hbm, ⟨61, _⟩ => ⟨S4x65536x128, .bf16⟩
  | .hbm, ⟨62, _⟩ => ⟨S4x65536x128, .bf16⟩
  | .hbm, ⟨63, _⟩ => ⟨S65536x1024, .bf16⟩
  | .hbm, ⟨64, _⟩ => ⟨S65536x1024, .bf16⟩
  | .hbm, ⟨65, _⟩ => ⟨S1024x5632, .bf16⟩
  | .hbm, ⟨66, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S4x512x128, .f32⟩
  | .local _ .vmem, ⟨5, _⟩ => ⟨S4x512x128, .f32⟩
  | .local _ .vmem, ⟨6, _⟩ => ⟨S16x5632, .f32⟩
  | .local _ .vmem, ⟨7, _⟩ => ⟨S16x5632, .f32⟩
  | .local _ .vmem, ⟨8, _⟩ => ⟨S32x1024, .f32⟩
  | .local _ .vmem, ⟨9, _⟩ => ⟨S32x1024, .f32⟩
  | .local _ .vmem, ⟨10, _⟩ => ⟨S4x512x128, .bf16⟩
  | .local _ .vmem, ⟨11, _⟩ => ⟨S4x512x128, .bf16⟩
  | .local _ .vmem, ⟨12, _⟩ => ⟨S4x512x128, .bf16⟩
  | .local _ .vmem, ⟨13, _⟩ => ⟨S4x512x128, .bf16⟩
  | .local _ .vmem, ⟨14, _⟩ => ⟨S4x512x256, .bf16⟩
  | .local _ .vmem, ⟨15, _⟩ => ⟨S4x512x256, .bf16⟩
  | .local _ .vmem, ⟨16, _⟩ => ⟨S4x512x256, .bf16⟩
  | .local _ .vmem, ⟨17, _⟩ => ⟨S4x512x256, .bf16⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S16x5632, .bf16⟩
  | .local _ .vmem, ⟨29, _⟩ => ⟨S16x5632, .bf16⟩
  | .local _ .vmem, ⟨30, _⟩ => ⟨S32x1024, .bf16⟩
  | .local _ .vmem, ⟨31, _⟩ => ⟨S32x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_cst_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25_0 : Ref sig .tc := ⟨.hbm, 56, rfl⟩
abbrev main_v25_1 : Ref sig .tc := ⟨.hbm, 57, rfl⟩
abbrev main_v25_2 : Ref sig .tc := ⟨.hbm, 58, rfl⟩
abbrev main_v25_3 : Ref sig .tc := ⟨.hbm, 59, rfl⟩
abbrev main_v25_4 : Ref sig .tc := ⟨.hbm, 60, rfl⟩
abbrev main_v25_5 : Ref sig .tc := ⟨.hbm, 61, rfl⟩
abbrev main_v25_6 : Ref sig .tc := ⟨.hbm, 62, rfl⟩
abbrev main_v25_7 : Ref sig .tc := ⟨.hbm, 63, rfl⟩
abbrev main_v25_8 : Ref sig .tc := ⟨.hbm, 64, rfl⟩
abbrev main_v25_9 : Ref sig .tc := ⟨.hbm, 65, rfl⟩
abbrev main_v25_10 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c87_i32 : BitVec 32 := 87#32
  let v0 : BitVec 32 := Scalar.minsi arg0 c87_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c87_i32 : BitVec 32 := 87#32
  let v0 : BitVec 32 := Scalar.minsi arg0 c87_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RInIdeal.lean ====
abbrev S65536x1024 : Shape := ⟨2, ![65536, 1024]⟩
abbrev S1x1024 : Shape := ⟨2, ![1, 1024]⟩
abbrev S1024x6656 : Shape := ⟨2, ![1024, 6656]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S65536x6656 : Shape := ⟨2, ![65536, 6656]⟩
abbrev S65536x512 : Shape := ⟨2, ![65536, 512]⟩
abbrev S2048 : Shape := ⟨1, ![2048]⟩
abbrev S32x2048x4x128 : Shape := ⟨4, ![32, 2048, 4, 128]⟩
abbrev S32x4x2048x128 : Shape := ⟨4, ![32, 4, 2048, 128]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S32x4x2048x64 : Shape := ⟨4, ![32, 4, 2048, 64]⟩
abbrev S1x1x2048x64 : Shape := ⟨4, ![1, 1, 2048, 64]⟩
abbrev S4x32x2048x128 : Shape := ⟨4, ![4, 32, 2048, 128]⟩
abbrev S4x65536x128 : Shape := ⟨3, ![4, 65536, 128]⟩
abbrev S32x2048x4x256 : Shape := ⟨4, ![32, 2048, 4, 256]⟩
abbrev S32x4x2048x256 : Shape := ⟨4, ![32, 4, 2048, 256]⟩
abbrev S4x32x2048x256 : Shape := ⟨4, ![4, 32, 2048, 256]⟩
abbrev S4x65536x256 : Shape := ⟨3, ![4, 65536, 256]⟩

abbrev nBuf : Space → Nat
  | .hbm => 192
  | .vmem => 0
  | .smem => 0
  | _ => 0

abbrev hbmTy0_0 (i : Nat) : BufTy := match i % 128 with
  | 0 => ⟨S65536x1024, .f32⟩
  | 1 => ⟨S1x1024, .f32⟩
  | 2 => ⟨S1024x6656, .bf16⟩
  | 3 => ⟨S1024x5632, .f32⟩
  | 4 => ⟨S2816x1024, .f32⟩
  | 5 => ⟨S65536x1024, .f32⟩
  | 6 => ⟨S_, .f32⟩
  | 7 => ⟨S65536, .f32⟩
  | 8 => ⟨S65536x1, .f32⟩
  | 9 => ⟨S_, .f32⟩
  | 10 => ⟨S65536x1, .f32⟩
  | 11 => ⟨S65536x1, .f32⟩
  | 12 => ⟨S_, .f32⟩
  | 13 => ⟨S65536x1, .f32⟩
  | 14 => ⟨S65536x1, .f32⟩
  | 15 => ⟨S65536x1, .f32⟩
  | 16 => ⟨S65536x1024, .f32⟩
  | 17 => ⟨S65536x1024, .f32⟩
  | 18 => ⟨S65536x1024, .f32⟩
  | 19 => ⟨S65536x1024, .f32⟩
  | 20 => ⟨S1024x6656, .f32⟩
  | 21 => ⟨S65536x6656, .f32⟩
  | 22 => ⟨S65536x512, .f32⟩
  | 23 => ⟨S65536x512, .f32⟩
  | 24 => ⟨S65536x1024, .f32⟩
  | 25 => ⟨S65536x1024, .f32⟩
  | 26 => ⟨S65536x512, .f32⟩
  | 27 => ⟨S65536x512, .f32⟩
  | 28 => ⟨S65536x512, .f32⟩
  | 29 => ⟨S65536x1024, .f32⟩
  | 30 => ⟨S65536x1024, .f32⟩
  | 31 => ⟨S2048, .f32⟩
  | 32 => ⟨S32x2048x4x128, .f32⟩
  | 33 => ⟨S32x4x2048x128, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S63, .f32⟩
  | 42 => ⟨S_, .f32⟩
  | 43 => ⟨S63, .f32⟩
  | 44 => ⟨S63, .f32⟩
  | 45 => ⟨S1, .f32⟩
  | 46 => ⟨S_, .f32⟩
  | 47 => ⟨S63, .f32⟩
  | 48 => ⟨S63, .f32⟩
  | 49 => ⟨S63, .f32⟩
  | 50 => ⟨S63, .f32⟩
  | 51 => ⟨S1, .f32⟩
  | 52 => ⟨S63, .f32⟩
  | 53 => ⟨S63, .f32⟩
  | 54 => ⟨S63, .f32⟩
  | 55 => ⟨S1, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S2048x1, .f32⟩
  | 64 => ⟨S1x64, .f32⟩
  | 65 => ⟨S2048x64, .f32⟩
  | 66 => ⟨S2048x64, .f32⟩
  | 67 => ⟨S2048x64, .f32⟩
  | 68 => ⟨S2048x64, .f32⟩
  | 69 => ⟨S2048x64, .f32⟩
  | 70 => ⟨S32x4x2048x64, .f32⟩
  | 71 => ⟨S32x4x2048x64, .f32⟩
  | 72 => ⟨S1x1x2048x64, .f32⟩
  | 73 => ⟨S32x4x2048x64, .f32⟩
  | 74 => ⟨S32x4x2048x64, .f32⟩
  | 75 => ⟨S1x1x2048x64, .f32⟩
  | 76 => ⟨S32x4x2048x64, .f32⟩
  | 77 => ⟨S32x4x2048x64, .f32⟩
  | 78 => ⟨S32x4x2048x64, .f32⟩
  | 79 => ⟨S1x1x2048x64, .f32⟩
  | 80 => ⟨S32x4x2048x64, .f32⟩
  | 81 => ⟨S32x4x2048x64, .f32⟩
  | 82 => ⟨S1x1x2048x64, .f32⟩
  | 83 => ⟨S32x4x2048x64, .f32⟩
  | 84 => ⟨S32x4x2048x64, .f32⟩
  | 85 => ⟨S32x4x2048x64, .f32⟩
  | 86 => ⟨S32x4x2048x128, .f32⟩
  | 87 => ⟨S32x2048x4x128, .f32⟩
  | 88 => ⟨S32x4x2048x128, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S63, .f32⟩
  | 97 => ⟨S_, .f32⟩
  | 98 => ⟨S63, .f32⟩
  | 99 => ⟨S63, .f32⟩
  | 100 => ⟨S1, .f32⟩
  | 101 => ⟨S_, .f32⟩
  | 102 => ⟨S63, .f32⟩
  | 103 => ⟨S63, .f32⟩
  | 104 => ⟨S63, .f32⟩
  | 105 => ⟨S63, .f32⟩
  | 106 => ⟨S1, .f32⟩
  | 107 => ⟨S63, .f32⟩
  | 108 => ⟨S63, .f32⟩
  | 109 => ⟨S63, .f32⟩
  | 110 => ⟨S1, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S2048x1, .f32⟩
  | 119 => ⟨S1x64, .f32⟩
  | 120 => ⟨S2048x64, .f32⟩
  | 121 => ⟨S2048x64, .f32⟩
  | 122 => ⟨S2048x64, .f32⟩
  | 123 => ⟨S2048x64, .f32⟩
  | 124 => ⟨S2048x64, .f32⟩
  | 125 => ⟨S32x4x2048x64, .f32⟩
  | 126 => ⟨S32x4x2048x64, .f32⟩
  | 127 => ⟨S1x1x2048x64, .f32⟩
  | _ => ⟨S65536x1024, .f32⟩

abbrev hbmTy0_1 (i : Nat) : BufTy := match i % 128 with
  | 0 => ⟨S32x4x2048x64, .f32⟩
  | 1 => ⟨S32x4x2048x64, .f32⟩
  | 2 => ⟨S1x1x2048x64, .f32⟩
  | 3 => ⟨S32x4x2048x64, .f32⟩
  | 4 => ⟨S32x4x2048x64, .f32⟩
  | 5 => ⟨S32x4x2048x64, .f32⟩
  | 6 => ⟨S1x1x2048x64, .f32⟩
  | 7 => ⟨S32x4x2048x64, .f32⟩
  | 8 => ⟨S32x4x2048x64, .f32⟩
  | 9 => ⟨S1x1x2048x64, .f32⟩
  | 10 => ⟨S32x4x2048x64, .f32⟩
  | 11 => ⟨S32x4x2048x64, .f32⟩
  | 12 => ⟨S32x4x2048x64, .f32⟩
  | 13 => ⟨S32x4x2048x128, .f32⟩
  | 14 => ⟨S_, .f32⟩
  | 15 => ⟨S32x4x2048x128, .f32⟩
  | 16 => ⟨S32x4x2048x128, .f32⟩
  | 17 => ⟨S4x32x2048x128, .f32⟩
  | 18 => ⟨S4x65536x128, .f32⟩
  | 19 => ⟨S4x65536x128, .bf16⟩
  | 20 => ⟨S4x32x2048x128, .f32⟩
  | 21 => ⟨S4x65536x128, .f32⟩
  | 22 => ⟨S4x65536x128, .bf16⟩
  | 23 => ⟨S32x2048x4x256, .f32⟩
  | 24 => ⟨S32x4x2048x256, .f32⟩
  | 25 => ⟨S4x32x2048x256, .f32⟩
  | 26 => ⟨S4x65536x256, .f32⟩
  | 27 => ⟨S4x65536x256, .bf16⟩
  | 28 => ⟨S65536x1024, .f32⟩
  | 29 => ⟨S65536x1024, .f32⟩
  | 30 => ⟨S_, .f32⟩
  | 31 => ⟨S65536x1024, .f32⟩
  | 32 => ⟨S65536x1024, .f32⟩
  | 33 => ⟨S_, .f32⟩
  | 34 => ⟨S65536x1024, .f32⟩
  | 35 => ⟨S65536x1024, .f32⟩
  | 36 => ⟨S65536x1024, .f32⟩
  | 37 => ⟨S32x2048x4x256, .f32⟩
  | 38 => ⟨S32x4x2048x256, .f32⟩
  | 39 => ⟨S4x32x2048x256, .f32⟩
  | 40 => ⟨S4x65536x256, .f32⟩
  | 41 => ⟨S4x65536x256, .bf16⟩
  | 42 => ⟨S_, .f32⟩
  | 43 => ⟨S65536x512, .f32⟩
  | 44 => ⟨S65536x512, .f32⟩
  | 45 => ⟨S32x2048x4x128, .f32⟩
  | 46 => ⟨S32x4x2048x128, .f32⟩
  | 47 => ⟨S4x32x2048x128, .f32⟩
  | 48 => ⟨S4x65536x128, .f32⟩
  | 49 => ⟨S4x65536x128, .bf16⟩
  | 50 => ⟨S32x2048x4x128, .f32⟩
  | 51 => ⟨S32x4x2048x128, .f32⟩
  | 52 => ⟨S4x32x2048x128, .f32⟩
  | 53 => ⟨S4x65536x128, .f32⟩
  | 54 => ⟨S4x65536x128, .bf16⟩
  | 55 => ⟨S32x2048x4x128, .f32⟩
  | 56 => ⟨S32x4x2048x128, .f32⟩
  | 57 => ⟨S4x32x2048x128, .f32⟩
  | 58 => ⟨S4x65536x128, .f32⟩
  | 59 => ⟨S4x65536x128, .bf16⟩
  | 60 => ⟨S65536x1024, .bf16⟩
  | 61 => ⟨S65536x1024, .bf16⟩
  | 62 => ⟨S1024x5632, .bf16⟩
  | 63 => ⟨S2816x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_cst : Ref sig .tc := ⟨.hbm, 39, rfl⟩
abbrev main_call0_v3 : Ref sig .tc := ⟨.hbm, 40, rfl⟩
abbrev main_call0_v4 : Ref sig .tc := ⟨.hbm, 41, rfl⟩
abbrev main_call0_cst_0 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_v15 : Ref sig .tc := ⟨.hbm, 54, rfl⟩
abbrev main_call0_v16 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_6 : Ref sig .tc := ⟨.hbm, 89, rfl⟩
abbrev main_cst_7 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_cst : Ref sig .tc := ⟨.hbm, 94, rfl⟩
abbrev main_call1_v3 : Ref sig .tc := ⟨.hbm, 95, rfl⟩
abbrev main_call1_v4 : Ref sig .tc := ⟨.hbm, 96, rfl⟩
abbrev main_call1_cst_0 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_call1_v15 : Ref sig .tc := ⟨.hbm, 109, rfl⟩
abbrev main_call1_v16 : Ref sig .tc := ⟨.hbm, 110, rfl⟩
abbrev main_v57 : Ref sig .tc := ⟨.hbm, 111, rfl⟩
abbrev main_cst_8 : Ref sig .tc := ⟨.hbm, 112, rfl⟩
abbrev main_v58 : Ref sig .tc := ⟨.hbm, 113, rfl⟩
abbrev main_v59 : Ref sig .tc := ⟨.hbm, 114, rfl⟩
abbrev main_cst_9 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_10 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_call2_v0 : Ref sig .tc := ⟨.hbm, 156, rfl⟩
abbrev main_call2_v1 : Ref sig .tc := ⟨.hbm, 157, rfl⟩
abbrev main_call2_cst : Ref sig .tc := ⟨.hbm, 158, rfl⟩
abbrev main_call2_v2 : Ref sig .tc := ⟨.hbm, 159, rfl⟩
abbrev main_call2_v3 : Ref sig .tc := ⟨.hbm, 160, rfl⟩
abbrev main_call2_cst_0 : Ref sig .tc := ⟨.hbm, 161, rfl⟩
abbrev main_call2_v4 : Ref sig .tc := ⟨.hbm, 162, rfl⟩
abbrev main_call2_v5 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_11 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩

abbrev nD : Nat := 1
abbrev τ : Topo := Topo.v7x

variable {F : FTy → Type} [FloatOps F]
-- ==== KOut.lean ====
abbrev S65536x1024 : Shape := ⟨2, ![65536, 1024]⟩
abbrev S4x65536x256 : Shape := ⟨3, ![4, 65536, 256]⟩
abbrev S4x65536x128 : Shape := ⟨3, ![4, 65536, 128]⟩
abbrev S1024x1024 : Shape := ⟨2, ![1024, 1024]⟩
abbrev S512x1024 : Shape := ⟨2, ![512, 1024]⟩
abbrev S1x1024 : Shape := ⟨2, ![1, 1024]⟩
abbrev S4x1024x256 : Shape := ⟨3, ![4, 1024, 256]⟩
abbrev S4x1024x128 : Shape := ⟨3, ![4, 1024, 128]⟩
abbrev S1x256x256 : Shape := ⟨3, ![1, 256, 256]⟩
abbrev S256x256 : Shape := ⟨2, ![256, 256]⟩
abbrev S256x1024 : Shape := ⟨2, ![256, 1024]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S4x65536x256, .bf16⟩
  | .hbm, ⟨2, _⟩ => ⟨S4x65536x128, .bf16⟩
  | .hbm, ⟨3, _⟩ => ⟨S65536x1024, .bf16⟩
  | .hbm, ⟨4, _⟩ => ⟨S65536x1024, .bf16⟩
  | .hbm, ⟨5, _⟩ => ⟨S1024x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x256, .bf16⟩
  | .local _ .vmem, ⟨3, _⟩ => ⟨S4x1024x256, .bf16⟩
  | .local _ .vmem, ⟨4, _⟩ => ⟨S4x1024x128, .bf16⟩
  | .local _ .vmem, ⟨5, _⟩ => ⟨S4x1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ROutIdeal.lean ====
abbrev S65536x1024 : Shape := ⟨2, ![65536, 1024]⟩
abbrev S4x65536x256 : Shape := ⟨3, ![4, 65536, 256]⟩
abbrev S4x65536x128 : Shape := ⟨3, ![4, 65536, 128]⟩
abbrev S1024x1024 : Shape := ⟨2, ![1024, 1024]⟩
abbrev S512x1024 : Shape := ⟨2, ![512, 1024]⟩
abbrev S1x1024 : Shape := ⟨2, ![1, 1024]⟩
abbrev S65536x4x256 : Shape := ⟨3, ![65536, 4, 256]⟩
abbrev S65536x4x128 : Shape := ⟨3, ![65536, 4, 128]⟩
abbrev S65536x512 : Shape := ⟨2, ![65536, 512]⟩
abbrev S_ : Shape := ⟨0, ![]⟩
abbrev S65536 : Shape := ⟨1, ![65536]⟩
abbrev S65536x1 : Shape := ⟨2, ![65536, 1]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x65536x256, .bf16⟩
  | .hbm, ⟨2, _⟩ => ⟨S4x65536x128, .bf16⟩
  | .hbm, ⟨3, _⟩ => ⟨S65536x1024, .bf16⟩
  | .hbm, ⟨4, _⟩ => ⟨S65536x1024, .bf16⟩
  | .hbm, ⟨5, _⟩ => ⟨S1024x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S4x65536x256, .f32⟩
  | .hbm, ⟨10, _⟩ => ⟨S65536x4x256, .f32⟩
  | .hbm, ⟨11, _⟩ => ⟨S65536x1024, .f32⟩
  | .hbm, ⟨12, _⟩ => ⟨S1024x1024, .f32⟩
  | .hbm, ⟨13, _⟩ => ⟨S65536x1024, .f32⟩
  | .hbm, ⟨14, _⟩ => ⟨S4x65536x128, .f32⟩
  | .hbm, ⟨15, _⟩ => ⟨S65536x4x128, .f32⟩
  | .hbm, ⟨16, _⟩ => ⟨S65536x512, .f32⟩
  | .hbm, ⟨17, _⟩ => ⟨S512x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S1024x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== KRet.lean ====
abbrev S2x4 : Shape := ⟨2, ![2, 4]⟩
abbrev S4x32x2048x128 : Shape := ⟨4, ![4, 32, 2048, 128]⟩
abbrev S4x32x2048x256 : Shape := ⟨4, ![4, 32, 2048, 256]⟩
abbrev S4x1x2048x128 : Shape := ⟨4, ![4, 1, 2048, 128]⟩
abbrev S4x1x2048x256 : Shape := ⟨4, ![4, 1, 2048, 256]⟩
abbrev S2x8x256x256 : Shape := ⟨4, ![2, 8, 256, 256]⟩
abbrev S4x256x256 : Shape := ⟨3, ![4, 256, 256]⟩
abbrev S4x4x256x128 : Shape := ⟨4, ![4, 4, 256, 128]⟩
abbrev S4x2x128x256 : Shape := ⟨4, ![4, 2, 128, 256]⟩
abbrev S256x256 : Shape := ⟨2, ![256, 256]⟩
abbrev S256x128 : Shape := ⟨2, ![256, 128]⟩
abbrev S1x1 : Shape := ⟨2, ![1, 1]⟩
abbrev S1x256x256 : Shape := ⟨3, ![1, 256, 256]⟩
abbrev S1x1x256x128 : Shape := ⟨4, ![1, 1, 256, 128]⟩
abbrev S128x256 : Shape := ⟨2, ![128, 256]⟩
abbrev S1x1x128x256 : Shape := ⟨4, ![1, 1, 128, 256]⟩
abbrev S1x1x256x256 : Shape := ⟨4, ![1, 1, 256, 256]⟩
abbrev S256x512 : Shape := ⟨2, ![256, 512]⟩
abbrev S512x256 : Shape := ⟨2, ![512, 256]⟩
abbrev S256 : Shape := ⟨1, ![256]⟩
abbrev S256x1 : Shape := ⟨2, ![256, 1]⟩

abbrev nBuf : Space → Nat
  | .hbm => 6
  | .vmem => 15
  | .smem => 1
  | _ => 0

abbrev bufTy : (tb : Table) → Fin (tcTables nBuf tb) → BufTy
  | .hbm, ⟨0, _⟩ => ⟨S2x4, .f32⟩
  | .hbm, ⟨1, _⟩ => ⟨S4x32x2048x128, .bf16⟩
  | .hbm, ⟨2, _⟩ => ⟨S4x32x2048x128, .bf16⟩
  | .hbm, ⟨3, _⟩ => ⟨S4x32x2048x256, .bf16⟩
  | .hbm, ⟨4, _⟩ => ⟨S4x32x2048x256, .bf16⟩
  | .hbm, ⟨5, _⟩ => ⟨S4x32x2048x256, .bf16⟩
  | .local _ .vmem, ⟨0, _⟩ => ⟨S4x1x2048x128, .bf16⟩
  | .local _ .vmem, ⟨1, _⟩ => ⟨S4x1x2048x128, .bf16⟩
  | .local _ .vmem, ⟨2, _⟩ => ⟨S4x1x2048x128, .bf16⟩
  | .local _ .vmem, ⟨3, _⟩ => ⟨S4x1x2048x128, .bf16⟩
  | .local _ .vmem, ⟨4, _⟩ => ⟨S4x1x2048x256, .bf16⟩
  | .local _ .vmem, ⟨5, _⟩ => ⟨S4x1x2048x256, .bf16⟩
  | .local _ .vmem, ⟨6, _⟩ => ⟨S4x1x2048x256, .bf16⟩
  | .local _ .vmem, ⟨7, _⟩ => ⟨S4x1x2048x256, .bf16⟩
  | .local _ .vmem, ⟨8, _⟩ => ⟨S4x1x2048x256, .bf16⟩
  | .local _ .vmem, ⟨9, _⟩ => ⟨S4x1x2048x256, .bf16⟩
  | .local _ .vmem, ⟨10, _⟩ => ⟨S2x8x256x256, .f32⟩
  | .local _ .vmem, ⟨11, _⟩ => ⟨S2x8x256x256, .bf16⟩
  | .local _ .vmem, ⟨12, _⟩ => ⟨S4x256x256, .f32⟩
  | .local _ .vmem, ⟨13, _⟩ => ⟨S4x4x256x128, .bf16⟩
  | .local _ .vmem, ⟨14, _⟩ => ⟨S4x2x128x256, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.RowMath.lean ====
/-
  The row formulas of the layer over the extended reals: the root-mean-square norm of a row, one row times one column
  of a weight matrix, and the gate of the feed-forward.  Each formula reads a row as a function of its position, so a
  block of rows and the whole array are spoken of alike.
-/
module

public import Idealize.ShloMosaic.Lib.Pointwise

@[expose] public section

noncomputable section

namespace Cert.RowMath

open Idealize.ShloMosaic

/-- The factor a row is scaled by: one over the root of its mean square, `n` the row's length and `e` the small constant
    that keeps the root off zero. -/
def scaleOf {K : ℕ} (n e : EReal) (x : Fin K → EReal) : EReal :=
  Ideal.rsqrt (Ideal.div (∑ k, x k * x k) n + e)

/-- The root-mean-square norm of a row with its gain, at one position. -/
def rms {K : ℕ} (n e : EReal) (x g : Fin K → EReal) (k : Fin K) : EReal :=
  x k * scaleOf n e x * g k

/-- A row times one column of a matrix. -/
def dot {K : ℕ} (x w : Fin K → EReal) : EReal := ∑ k, x k * w k

/-- The gated unit: `a` times its logistic, times `b`. -/
def gated (a b : EReal) : EReal := a * Ideal.logistic a * b

/-- The words of the row length 1024, of the small constant and of one half, as the two programs print them. -/
def len : EReal := Ideal.ofBits FTy.f32 0x44800000#32
/-- The small constant added to the mean square. -/
def eps : EReal := Ideal.ofBits FTy.f32 0x358637BD#32
/-- One half. -/
def half : EReal := Ideal.ofBits FTy.f32 0x3F000000#32

end Cert.RowMath

end

end
-- ==== Proof.FfnMath.lean ====
/-
  What the feed-forward computes for one row: the row plus half the norm of its gated product, over the extended reals.
-/
module

public import proofs.«01_k».proof.Proof.RowMath

@[expose] public section

noncomputable section

namespace Cert.Ffn

open Idealize.ShloMosaic Cert.RowMath

/-- Position `j` of the gated inner row: column `j` of the first weight matrix is the gate's, column `2816 + j` the
    other factor's. -/
def inner (x g : Fin 1024 → EReal) (w : Fin 1024 → Fin 5632 → EReal) (j : Fin 2816) : EReal :=
  gated (dot (rms len eps x g) fun k => w k ⟨j.val, by have := j.isLt; omega⟩)
    (dot (rms len eps x g) fun k => w k ⟨2816 + j.val, by have := j.isLt; omega⟩)

/-- Position `c` of the feed-forward's row. -/
def row (x g : Fin 1024 → EReal) (w : Fin 1024 → Fin 5632 → EReal) (v : Fin 2816 → Fin 1024 → EReal)
    (h : Fin 1024 → EReal) (c : Fin 1024) : EReal :=
  x c + half * rms len eps (fun d => dot (inner x g w) fun j => v j d) h c

/-- The feed-forward of every row of an array. -/
def arr (x0 : (⟨2, ![65536, 1024]⟩ : Shape).Idx → EReal) (x1 : (⟨2, ![1, 1024]⟩ : Shape).Idx → EReal)
    (x2 : (⟨2, ![1024, 5632]⟩ : Shape).Idx → EReal) (x3 : (⟨2, ![2816, 1024]⟩ : Shape).Idx → EReal)
    (x4 : (⟨2, ![1, 1024]⟩ : Shape).Idx → EReal) : (⟨2, ![65536, 1024]⟩ : Shape).Idx → EReal :=
  fun i => row (fun k => x0 (ix2 (i 0) k)) (fun k => x1 (ix2 0 k)) (fun k j => x2 (ix2 k j)) (fun j d => x3 (ix2 j d))
    (fun k => x4 (ix2 0 k)) (i 1)

end Cert.Ffn

end

end
-- ==== Proof.Bands.lean ====
/-
  A band of rows of a rank-two buffer covered by tiles side by side, checked by evaluation on the tiles' offsets.
-/
module

public import Idealize.ShloMosaic.Lib.Pipeline.ValueKit
public import Idealize.ShloMosaic.Lib.Pointwise
public import Idealize.ShloMosaic.Lib.Pipeline.ReadBack

@[expose] public section

set_option maxRecDepth 16384

namespace Cert.Bands

open Idealize.ShloMosaic

variable {Val : EltTy → Type} {e : EltTy} {R C : ℕ}

/-- A tile lies inside the buffer when each axis does. -/
theorem inside {r c h w : ℕ} (hr : r + h ≤ R) (hc : c + w ≤ C) :
    ∀ a, (![r, c] : Fin 2 → ℕ) a + (![h, w] : Fin 2 → ℕ) a ≤ (⟨2, ![R, C]⟩ : Shape).size a := fun a =>
  match a with
  | ⟨0, _⟩ => hr
  | ⟨1, _⟩ => hc

/-- Whether some stored tile starts at row `r`, column `w * q`, with `h` rows and `w` columns. -/
def hasTile (L : List (View.Piece Val ⟨2, ![R, C]⟩ e)) (r h w q : ℕ) : Bool :=
  L.any fun p => decide (p.1.off 0 = r) && decide (p.1.off 1 = w * q) && decide (p.1.size 0 = h) &&
    decide (p.1.size 1 = w) && decide (p.1.stride 0 = 1) && decide (p.1.stride 1 = 1)

/-- The tiles `0 … n - 1` of a band cover each of its places in the first `w * n` columns. -/
theorem covered (L : List (View.Piece Val ⟨2, ![R, C]⟩ e)) (r h w n : ℕ) (hw : 0 < w)
    (hL : ((List.range n).all fun q => hasTile L r h w q) = true) (i : (⟨2, ![R, C]⟩ : Shape).Idx)
    (h0 : r ≤ (i 0).val) (h1 : (i 0).val < r + h) (h2 : (i 1).val < w * n) : ∃ p ∈ L, i ∈ p.1.set := by
  have hq : (i 1).val / w < n := Nat.div_lt_of_lt_mul h2
  have hp := List.all_eq_true.mp hL _ (List.mem_range.mpr hq)
  obtain ⟨p, hpL, hp⟩ := List.any_eq_true.mp hp
  simp only [Bool.and_eq_true, decide_eq_true_eq] at hp
  obtain ⟨⟨⟨⟨⟨e0, e1⟩, s0⟩, s1⟩, t0⟩, t1⟩ := hp
  have hd := Nat.div_add_mod (i 1).val w
  have hm := Nat.mod_lt (i 1).val hw
  refine ⟨p, hpL, (LoadRect.mem_set _).mpr fun a => ?_⟩
  match a with
  | ⟨0, _⟩ => exact ⟨(i 0).val - r, by show _ < p.1.size 0; omega, by
      show (i 0).val = p.1.off 0 + p.1.stride 0 * _; rw [e0, t0]; omega⟩
  | ⟨1, _⟩ => exact ⟨(i 1).val % w, by show _ < p.1.size 1; omega, by
      show (i 1).val = p.1.off 1 + p.1.stride 1 * _; rw [e1, t1]; omega⟩

/-- Where a tile places its own index. -/
theorem emb_ix2 {r c h w : ℕ} {inb : ∀ a, (![r, c] : Fin 2 → ℕ) a + (![h, w] : Fin 2 → ℕ) a ≤ (⟨2, ![R, C]⟩ : Shape).size a}
    (a : Fin h) (b : Fin w) (ha : r + a.val < R) (hb : c + b.val < C) :
    (Rect.unit (s := ⟨2, ![R, C]⟩) ![r, c] ![h, w] inb).emb (ix2 a b) = ix2 ⟨r + a.val, ha⟩ ⟨c + b.val, hb⟩ :=
  funext fun x => Fin.ext (by
    match x with
    | ⟨0, _⟩ => show r + 1 * a.val = r + a.val; omega
    | ⟨1, _⟩ => show c + 1 * b.val = c + b.val; omega)

/-- A load of a whole band after stores that are all blocks of `G` and cover the band reads `G` there. -/
theorem read_band [∀ e, Nonempty (Val e)] {sig : RefSig} {κ : Kind} {sp : Space} (v : View sig κ sp ⟨2, ![R, C]⟩ e)
    (G : (⟨2, ![R, C]⟩ : Shape).Idx → Val e) (L : List (View.Piece Val ⟨2, ![R, C]⟩ e)) (r h w n N : ℕ) (hN : N = w * n)
    (inb : ∀ a, (![r, 0] : Fin 2 → ℕ) a + (![h, N] : Fin 2 → ℕ) a ≤ (⟨2, ![R, C]⟩ : Shape).size a) (hw : 0 < w)
    (hL : ((List.range n).all fun q => hasTile L r h w q) = true) (hG : View.PiecesOf G L) (a : Fin h) (b : Fin N)
    (ha : r + a.val < R) (hb : b.val < C) :
    v.readCov L (Rect.unit (s := ⟨2, ![R, C]⟩) ![r, 0] ![h, N] inb).toLoadRect (ix2 a b) = G (ix2 ⟨r + a.val, ha⟩ ⟨b.val, hb⟩) := by
  rw [View.readCov_eq_canon']
  have he : (Rect.unit (s := ⟨2, ![R, C]⟩) ![r, 0] ![h, N] inb).toLoadRect.idx (ix2 a b) = ix2 ⟨r + a.val, ha⟩ ⟨b.val, hb⟩ :=
    (emb_ix2 a b ha (by omega)).trans (by simp only [Nat.zero_add])
  show View.canon L ((Rect.unit (s := ⟨2, ![R, C]⟩) ![r, 0] ![h, N] inb).toLoadRect.idx (ix2 a b)) = _
  rw [he]
  have h2 := View.canon_append_of_piecesOf G [] L hG (ix2 ⟨r + a.val, ha⟩ ⟨b.val, hb⟩)
    (covered L r h w n hw hL _ (by show r ≤ r + a.val; omega) (by show r + a.val < r + h; omega)
      (by show b.val < w * n; omega))
  rwa [List.append_nil] at h2

end Cert.Bands

end
-- ==== Proof.FfnBlock.lean ====
/-
  What one grid point of the feed-forward kernel writes: rows of `Ffn.row` of the point's block.
-/
module

public import proofs.«01_k».proof.Proof.Gen.KFfnIdeal.Value
public import proofs.«01_k».proof.Proof.FfnMath
public import proofs.«01_k».proof.Proof.Bands
public import Idealize.ShloMosaic.Lib.Pipeline.ValueKit
public import Idealize.ShloMosaic.Lib.Pipeline.ReadBack

@[expose] public section

set_option maxRecDepth 16384

noncomputable section

namespace Cert.Ffn

open Cert.KFfnIdeal Cert.KFfnIdeal.Gen Idealize.ShloMosaic Idealize.ShloMosaic.TcCoe Idealize.SL.Sem Cert.RowMath

/-- The gated inner rows of a block of 1024 rows, as one array. -/
def innerBlk (x0 : Vec Ideal S1024x1024 .f32) (x1 : Vec Ideal S1x1024 .f32) (x2 : Vec Ideal S1024x5632 .bf16) :
    Vec Ideal S1024x2816 .bf16 :=
  fun i => inner (fun k => x0 (ix2 (i 0) k)) (fun k => x1 (ix2 0 k)) (fun k j => x2 (ix2 k j)) (i 1)

/-- The feed-forward of a block of 1024 rows, as one array. -/
def rowBlk (x0 : Vec Ideal S1024x1024 .f32) (x1 : Vec Ideal S1x1024 .f32) (x2 : Vec Ideal S1024x5632 .bf16)
    (x3 : Vec Ideal S2816x1024 .bf16) (x4 : Vec Ideal S1x1024 .f32) : Vec Ideal S1024x1024 .f32 :=
  fun i => row (fun k => x0 (ix2 (i 0) k)) (fun k => x1 (ix2 0 k)) (fun k j => x2 (ix2 k j)) (fun j d => x3 (ix2 j d))
    (fun k => x4 (ix2 0 k)) (i 1)

/-- A sub-tile's norm. -/
theorem normTile_apply (x : Vec Ideal S256x1024 .f32) (g : Vec Ideal S1x1024 .f32) (r : Fin 256) (k : Fin 1024) :
    k0_pay2 x g (ix2 r k) = rms len eps (fun k => x (ix2 r k)) (fun k => g (ix2 0 k)) k := by
  pointwise [k0_pay2]
  rfl

/-- A tile of the gated product. -/
theorem gateTile_apply (u : Vec Ideal S256x1024 .bf16) (w v : Vec Ideal S1024x256 .bf16) (r k : Fin 256) :
    k0_pay6 u w v (ix2 r k) =
      gated (dot (fun m => u (ix2 r m)) fun m => w (ix2 m k)) (dot (fun m => u (ix2 r m)) fun m => v (ix2 m k)) := by
  pointwise [k0_pay6]
  rfl

/-- A sub-tile of the result, from its gated rows. -/
theorem outTile_apply (a : Vec Ideal S256x2816 .bf16) (w : Vec Ideal S2816x1024 .bf16) (x : Vec Ideal S256x1024 .f32)
    (g : Vec Ideal S1x1024 .f32) (r : Fin 256) (k : Fin 1024) :
    k0_pay1 a w x g (ix2 r k) =
      x (ix2 r k) + half * rms len eps (fun d => dot (fun j => a (ix2 r j)) fun j => w (ix2 j d)) (fun k => g (ix2 0 k)) k := by
  pointwise [k0_pay1]
  rfl

/-- The tile of the gated rows that starts at row `r`, column `c`, is that block of `innerBlk`. -/
theorem inner_piece (r c : ℕ) (hr : r + 256 ≤ 1024) (hc : c + 256 ≤ 2816) (x0 : Vec Ideal S1024x1024 .f32)
    (x1 : Vec Ideal S1x1024 .f32) (x2 : Vec Ideal S1024x5632 .bf16) (x : S256x256.Idx) :
    k0_pay6 (k0_pay2 (View.ld x0 (Rect.unit ![r, 0] ![256, 1024] (Bands.inside hr (by omega)))) x1)
        (View.ld x2 (Rect.unit ![0, c] ![1024, 256] (Bands.inside (by omega) (by omega))))
        (View.ld x2 (Rect.unit ![0, 2816 + c] ![1024, 256] (Bands.inside (by omega) (by omega)))) x =
      innerBlk x0 x1 x2 ((Rect.unit (s := S1024x2816) ![r, c] ![256, 256] (Bands.inside hr hc)).emb x) := by
  idx_vars x
  rw [gateTile_apply]
  rw [Bands.emb_ix2 _ _ (by omega) (by omega)]
  simp only [normTile_apply]
  pointwise [innerBlk, inner]
  simp only [Nat.add_assoc]

/-- The sub-tile of the result that starts at row `r` is that block of `rowBlk`, when its gated rows are `innerBlk`'s. -/
theorem out_piece (r : ℕ) (hr : r + 256 ≤ 1024) (x0 : Vec Ideal S1024x1024 .f32) (x1 : Vec Ideal S1x1024 .f32)
    (x2 : Vec Ideal S1024x5632 .bf16) (x3 : Vec Ideal S2816x1024 .bf16) (x4 : Vec Ideal S1x1024 .f32)
    (A : Vec Ideal S256x2816 .bf16)
    (hA : ∀ (a : Fin 256) (j : Fin 2816), A (ix2 a j) = innerBlk x0 x1 x2 (ix2 ⟨r + a.val, by omega⟩ j))
    (x : S256x1024.Idx) :
    k0_pay1 A x3 (View.ld x0 (Rect.unit ![r, 0] ![256, 1024] (Bands.inside hr (by omega)))) x4 x =
      rowBlk x0 x1 x2 x3 x4
        ((Rect.unit (s := S1024x1024) ![r, 0] ![256, 1024] (Bands.inside hr (by omega))).emb x) := by
  idx_vars x
  rw [outTile_apply]
  rw [Bands.emb_ix2 _ _ (by omega) (by omega)]
  simp only [hA]
  pointwise [innerBlk, rowBlk, row]

/-- What one grid point leaves in its output block. -/
theorem block (c : Dev nD) (i : grid0.Coords) (a1 : Memref sig .tc .vmem S1024x1024 .f32) (h1 : a1.IsWhole)
    (a2 : Memref sig .tc .vmem S1x1024 .f32) (h2 : a2.IsWhole) (a3 : Memref sig .tc .vmem S1024x5632 .bf16)
    (h3 : a3.IsWhole) (a4 : Memref sig .tc .vmem S2816x1024 .bf16) (h4 : a4.IsWhole)
    (a5 : Memref sig .tc .vmem S1x1024 .f32) (h5 : a5.IsWhole) (a6 : Memref sig .tc .vmem S1024x1024 .f32)
    (h6 : a6.IsWhole) (a7 : Memref sig .tc .vmem S1024x2816 .bf16) (h7 : a7.IsWhole)
    (x0 : Vec Ideal S1024x1024 .f32) (x1 : Vec Ideal S1x1024 .f32) (x2 : Vec Ideal S1024x5632 .bf16)
    (x3 : Vec Ideal S2816x1024 .bf16) (x4 : Vec Ideal S1x1024 .f32) (y : S1024x1024.Idx) :
    out0_A_5 c i a1 h1 a2 h2 a3 h3 a4 h4 a5 h5 a6 h6 a7 h7 x0 x1 x2 x3 x4 y = rowBlk x0 x1 x2 x3 x4 y := by
  frame_out
  refine View.canon_append_of_piecesOf _ [] [_, _, _, _] ⟨?_, ?_, ?_, ?_, trivial⟩ y
    (View.cover_of_tiledL _ ![256, 1024] (by sl_kernel_rfl) y)
  all_goals
    intro x
    refine out_piece _ (by omega) x0 x1 x2 x3 x4 _ (fun r j => ?_) x
    refine Bands.read_band _ (innerBlk x0 x1 x2) _ _ 256 256 11 2816 rfl _ (by omega) (by sl_kernel_rfl) ?_ r j _ _
    repeat' first
      | exact trivial
      | refine And.intro (fun x => inner_piece _ _ (by omega) (by omega) x0 x1 x2 x) ?_

end Cert.Ffn

end

end
-- ==== Proof.FfnRun.lean ====
/-
  The feed-forward kernel's result array after the run: its blocks side by side are `Ffn.arr` of the arguments.
-/
module

public import proofs.«01_k».proof.Proof.FfnBlock

@[expose] public section

set_option maxRecDepth 16384

noncomputable section

namespace Cert.Ffn

open Cert.KFfnIdeal Cert.KFfnIdeal.Gen Idealize.ShloMosaic Idealize.ShloMosaic.TcCoe Idealize.SL.Sem Cert.RowMath

variable (m : (ℓ : Loc nD τ sig) → Buf (Elt Ideal) ℓ) (ρ : Dev nD → PrngReg)

/-- Where each window's block lies at a grid point. -/
theorem index (t : Fin grid0.N) : win0_0.index t = ![t.val, 0] ∧ win0_1.index t = ![0, 0] ∧ win0_2.index t = ![0, 0] ∧
    win0_3.index t = ![0, 0] ∧ win0_4.index t = ![0, 0] ∧ win0_5.index t = ![t.val, 0] :=
  (by decide +kernel : ∀ t : Fin grid0.N, win0_0.index t = ![t.val, 0] ∧ win0_1.index t = ![0, 0] ∧
    win0_2.index t = ![0, 0] ∧ win0_3.index t = ![0, 0] ∧ win0_4.index t = ![0, 0] ∧ win0_5.index t = ![t.val, 0]) t

/-- There are 64 grid points. -/
theorem point_lt (t : Fin cfg0.N) : t.val < 64 := lt_of_lt_of_eq t.isLt (by decide +kernel : grid0.N = 64)

/-- The rows a grid point reads. -/
theorem in0 (c : Dev nD) (t : Fin cfg0.N) (a k : Fin 1024) : iblk (F := Ideal) m c 0 t (ix2 a k) =
    m ((c : Thread nD τ).loc main_arg0) (ix2 ⟨t.val * 1024 + a.val, by have := point_lt t; omega⟩ k) := by
  blk_ext [iblk, V, index t]

theorem in1 (c : Dev nD) (t : Fin cfg0.N) (k : Fin 1024) :
    iblk (F := Ideal) m c 1 t (ix2 0 k) = m ((c : Thread nD τ).loc main_arg1) (ix2 0 k) := by
  blk_ext [iblk, V, index t]

theorem in2 (c : Dev nD) (t : Fin cfg0.N) (k : Fin 1024) (j : Fin 5632) :
    iblk (F := Ideal) m c 2 t (ix2 k j) = m ((c : Thread nD τ).loc main_arg2) (ix2 k j) := by
  blk_ext [iblk, V, index t]

theorem in3 (c : Dev nD) (t : Fin cfg0.N) (j : Fin 2816) (k : Fin 1024) :
    iblk (F := Ideal) m c 3 t (ix2 j k) = m ((c : Thread nD τ).loc main_arg3) (ix2 j k) := by
  blk_ext [iblk, V, index t]

theorem in4 (c : Dev nD) (t : Fin cfg0.N) (k : Fin 1024) :
    iblk (F := Ideal) m c 4 t (ix2 0 k) = m ((c : Thread nD τ).loc main_arg4) (ix2 0 k) := by
  blk_ext [iblk, V, index t]

/-- Where a point's output block lies in the result. -/
theorem out_emb (t : Fin cfg0.N) (a k : Fin 1024) : (win0_5.blk t).view.emb (ix2 a k) =
    ix2 ⟨t.val * 1024 + a.val, by have := point_lt t; omega⟩ k := by
  blk_ext [index t]

/-- The result array after the run. -/
theorem final (c : Dev nD) : (dats (F := Ideal) m 0 c).arrAt 5 cfg0.N =
    arr (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats (F := Ideal) m 0 c).arrAt_eq_of_covers 5 _ (by decide +kernel) fun t hf y => ?_
  blk_simp
  rw [after0_5]
  obtain ⟨a, k, rfl⟩ : ∃ (a k : Fin 1024), y = ix2 a k := ⟨y 0, y 1, eq_ix2 y⟩
  rw [out_emb]
  refine (block _ _ _ _ _ _ _ _ _ _ _ _ _ _ _ _ _ _ _ _ _ _).trans ?_
  simp only [rowBlk, arr]
  simp only [in1, in2, in3, in4]
  exact congrArg (fun f => row f _ _ _ _ k) (funext fun k' => in0 m c t a k')

/-- The kernel's result after its run is the feed-forward of every row of its first argument. -/
theorem kernel_run : θ_run defs (onTc (τ := τ) (main (F := Ideal))) ⟨m, fun _ => 0, ρ⟩ fun r => ∀ c : Dev nD,
      r.2.mem ((c : Thread nD τ).loc main_v0) =
          arr (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.KFfnIdeal.Value.run_blocks m ρ)

end Cert.Ffn

end
-- ==== Proof.FfnRef.lean ====
/-
  The reference's feed-forward, read at an element: `Ffn.row` of the element's row.
-/
module

public import proofs.«01_k».proof.Proof.Gen.RFfnIdeal.Read
public import proofs.«01_k».proof.Proof.FfnMath

@[expose] public section

set_option maxRecDepth 16384

noncomputable section

namespace Cert.Ffn

open Cert.RFfnIdeal Cert.RFfnIdeal.Gen Cert.RFfnIdeal.Read Idealize.ShloMosaic Idealize.ShloMosaic.TcCoe
  Idealize.SL.Sem Cert.RowMath

variable (x0 : FVec Ideal S65536x1024 .f32) (x1 : FVec Ideal S1x1024 .f32) (x2 : FVec Ideal S1024x5632 .bf16)
  (x3 : FVec Ideal S2816x1024 .bf16) (x4 : FVec Ideal S1x1024 .f32)

theorem ref_norm (r : Fin 65536) (k : Fin 1024) :
    val_main_v11 (F := Ideal) x0 x1 (ix2 r k) = rms len eps (fun k => x0 (ix2 r k)) (fun k => x1 (ix2 0 k)) k := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

theorem ref_inner (r : Fin 65536) (j : Fin 2816) :
    val_main_v17 (F := Ideal) x0 x1 x2 (ix2 r j) =
      inner (fun k => x0 (ix2 r k)) (fun k => x1 (ix2 0 k)) (fun k j => x2 (ix2 k j)) j := by
  pointwise [val_main_v17, val_main_v16, val_main_v15, val_main_v14, val_main_v13, val_main_v12, ref_norm,
    val_main_call0_v5, val_main_call0_v4, val_main_call0_v3, val_main_call0_v2, val_main_call0_v1, val_main_call0_v0,
    val_main_call0_cst, val_main_call0_cst_0]
  rfl

theorem ref_row (r : Fin 65536) (c : Fin 1024) :
    val_main_v34 (F := Ideal) x0 x1 x2 x3 x4 (ix2 r c) =
      row (fun k => x0 (ix2 r k)) (fun k => x1 (ix2 0 k)) (fun k j => x2 (ix2 k j)) (fun j d => x3 (ix2 j d))
        (fun k => x4 (ix2 0 k)) c := by
  pointwise [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_cst_2, val_main_cst_3, val_main_cst_4, val_main_cst_5, ref_inner]
  rfl

/-- The reference's result after its run is the feed-forward of every row of its first argument. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) =
          arr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v34_eq m c).symm.trans (funext fun i => by
    rw [eq_ix2 i]; exact ref_row _ _ _ _ _ _ _)), (h c).2⟩) (Cert.RFfnIdeal.Value.run m ρ)

end Cert.Ffn

end

end
-- ==== Proof.FfnClaim.lean ====
/-
  The feed-forward kernel and the reference's feed-forward lines give the same result over the reals.
-/
module

public import proofs.«01_k».proof.Defs
public import proofs.«01_k».proof.Proof.FfnRun
public import proofs.«01_k».proof.Proof.FfnRef

@[expose] public section

noncomputable section

namespace Cert.Ffn

open Idealize.ShloMosaic Idealize.SL.Sem

/-- The reference runs, leaves its arguments alone and has no semaphores. -/
theorem ref_frame : Cert.quiescent_RFfnIdeal (hRFfnIdeal := Cert.RFfnIdeal.Gen.facts) := fun m ρ _ =>
  (θ_run Cert.RFfnIdeal.defs _ _).mono (fun r h => ⟨fun c => (h c).2, sem_eq_zero_of_no_sems (by decide) r.2⟩)
    (ref_run m ρ)

/-- Both results are the feed-forward of the rows of the arguments they share. -/
theorem same : Cert.algebraic_KFfnIdeal_RFfnIdeal (hKFfnIdeal := Cert.KFfnIdeal.Gen.facts)
    (hRFfnIdeal := Cert.RFfnIdeal.Gen.facts) := fun m ρ m' ρ' _ hag =>
  ⟨fun c => arr (m ((c.tc : Thread Cert.KFfnIdeal.nD Cert.KFfnIdeal.τ).loc Cert.KFfnIdeal.main_arg0))
      (m ((c.tc : Thread Cert.KFfnIdeal.nD Cert.KFfnIdeal.τ).loc Cert.KFfnIdeal.main_arg1))
      (m ((c.tc : Thread Cert.KFfnIdeal.nD Cert.KFfnIdeal.τ).loc Cert.KFfnIdeal.main_arg2))
      (m ((c.tc : Thread Cert.KFfnIdeal.nD Cert.KFfnIdeal.τ).loc Cert.KFfnIdeal.main_arg3))
      (m ((c.tc : Thread Cert.KFfnIdeal.nD Cert.KFfnIdeal.τ).loc Cert.KFfnIdeal.main_arg4)),
    kernel_run m ρ,
    (θ_run _ _ _).mono (fun _ h c => ⟨(h c).1.trans (by
      rw [(hag c).1, (hag c).2.1, (hag c).2.2.1, (hag c).2.2.2.1, (hag c).2.2.2.2]), (h c).2⟩) (ref_run m' ρ')⟩

end Cert.Ffn

end

end
-- ==== Proof.InMath.lean ====
/-
  What the mixing projection computes for one row: the normed row through the wide matrix, and for the first two parts
  the rotation of a head's places by the angles of the row's position in its sequence.
-/
module

public import proofs.«01_k».proof.Proof.RowMath

@[expose] public section

noncomputable section

namespace Cert.In

open Idealize.ShloMosaic Cert.RowMath

/-- Column `c` of a row's projection. -/
def proj (x g : Fin 1024 → EReal) (w : Fin 1024 → Fin 6656 → EReal) (c : Fin 6656) : EReal :=
  dot (fun k => rms len eps x g k) fun k => w k c

/-- The projection of row `r` of an array of rows. -/
def projAt {R : ℕ} (x0 : (⟨2, ![R, 1024]⟩ : Shape).Idx → EReal) (x1 : (⟨2, ![1, 1024]⟩ : Shape).Idx → EReal)
    (x2 : (⟨2, ![1024, 6656]⟩ : Shape).Idx → EReal) (r : Fin R) (c : Fin 6656) : EReal :=
  proj (fun k => x0 (ix2 r k)) (fun k => x1 (ix2 0 k)) (fun k d => x2 (ix2 k d)) c

/-- Four groups of `n` columns from column `o` on, each value through `f`. -/
def groups {R : ℕ} (o n : ℕ) (hb : o + 4 * n ≤ 6656) (f : EReal → EReal) (x0 : (⟨2, ![R, 1024]⟩ : Shape).Idx → EReal)
    (x1 : (⟨2, ![1, 1024]⟩ : Shape).Idx → EReal) (x2 : (⟨2, ![1024, 6656]⟩ : Shape).Idx → EReal)
    (q : Fin 4) (r : Fin R) (k : Fin n) : EReal :=
  f (projAt x0 x1 x2 r ⟨o + (q.val * n + k.val), by have := Nat.mul_le_mul_right n (show q.val ≤ 3 by omega); omega⟩)

/-- The rotation of a head's 128 places by the 64 angles of a position: the first half against the second. -/
def rot (y : Fin 128 → EReal) (cos sin : Fin 64 → EReal) (d : Fin 128) : EReal :=
  if h : d.val < 64 then y d * cos ⟨d.val, h⟩ - y ⟨d.val + 64, by omega⟩ * sin ⟨d.val, h⟩
  else y ⟨d.val - 64, by omega⟩ * sin ⟨d.val - 64, by omega⟩ + y d * cos ⟨d.val - 64, by omega⟩

/-- A table laid twice side by side. -/
def twice (a b : Fin 64 → EReal) (d : Fin 128) : EReal :=
  if h : d.val < 64 then a ⟨d.val, h⟩ else b ⟨d.val - 64, by omega⟩

/-- The angle of position `p` at place `e`: the position over the base to the power of the place's share of the way. -/
def angle (p : ℕ) (e : Fin 64) : EReal :=
  FloatOps.sitofp (F := Ideal) FTy.f32 (BitVec.ofNat 32 p) * Ideal.div 1 (Ideal.pow (Ideal.ofBits FTy.f32 0x461C4000#32)
    (if e.val < 63 then
      Ideal.ofBits FTy.f32 0x00000000#32 * (1 - Ideal.div (FloatOps.sitofp (F := Ideal) FTy.f32 (BitVec.ofNat 32 e.val)) (Ideal.ofBits FTy.f32 0x427C0000#32)) +
        Ideal.ofBits FTy.f32 0x3F800000#32 * Ideal.div (FloatOps.sitofp (F := Ideal) FTy.f32 (BitVec.ofNat 32 e.val)) (Ideal.ofBits FTy.f32 0x427C0000#32)
    else Ideal.ofBits FTy.f32 0x3F800000#32))

/-- The cosine of that angle. -/
def cosT (p : ℕ) (e : Fin 64) : EReal := Ideal.cos (angle p e)
/-- The sine of that angle. -/
def sinT (p : ℕ) (e : Fin 64) : EReal := Ideal.sin (angle p e)

/-- The scale of the keys, one over the root of 128 as both programs print it. -/
def keyScale : EReal := Ideal.ofBits FTy.f32 0x3DB504F3#32

/-- The sequence of a row. -/
@[irreducible] def seqOf (r : Fin 65536) : Fin 32 := ⟨r.val / 2048, by omega⟩
/-- The position of a row in its sequence. -/
@[irreducible] def posOf (r : Fin 65536) : Fin 2048 := ⟨r.val % 2048, by omega⟩

theorem seqOf_val (r : Fin 65536) : (seqOf r).val = r.val / 2048 := by unfold seqOf; rfl
theorem posOf_val (r : Fin 65536) : (posOf r).val = r.val % 2048 := by unfold posOf; rfl

/-- A value times its logistic. -/
def gate (v : EReal) : EReal := v * Ideal.div 1 (1 + Ideal.exp (-v))

/-- The scale of the neighbourhood attention's queries, as both programs print it. -/
def naScale : EReal := Ideal.ofBits FTy.f32 0x3E38AA3B#32

/-- Four groups of columns of every row, as one array. -/
def grpArr {R : ℕ} (o n : ℕ) (hb : o + 4 * n ≤ 6656) (f : EReal → EReal) (x0 : (⟨2, ![R, 1024]⟩ : Shape).Idx → EReal)
    (x1 : (⟨2, ![1, 1024]⟩ : Shape).Idx → EReal) (x2 : (⟨2, ![1024, 6656]⟩ : Shape).Idx → EReal) :
    (⟨3, ![4, R, n]⟩ : Shape).Idx → EReal := fun i => groups o n hb f x0 x1 x2 (i 0) (i 1) (i 2)

/-- Four rotated groups of every row, as one array, each value through `f`. -/
def rotArr {R : ℕ} (o : ℕ) (hb : o + 4 * 128 ≤ 6656) (f : EReal → EReal) (x0 : (⟨2, ![R, 1024]⟩ : Shape).Idx → EReal)
    (x1 : (⟨2, ![1, 1024]⟩ : Shape).Idx → EReal) (x2 : (⟨2, ![1024, 6656]⟩ : Shape).Idx → EReal)
    (cos sin : Fin R → Fin 64 → EReal) : (⟨3, ![4, R, 128]⟩ : Shape).Idx → EReal := fun i =>
  f (rot (fun d => groups o 128 hb id x0 x1 x2 (i 0) (i 1) d) (cos (i 1)) (sin (i 1)) (i 2))

/-- 1024 columns of every row, as one array. -/
def gateArr {R : ℕ} (o : ℕ) (hb : o + 1024 ≤ 6656) (x0 : (⟨2, ![R, 1024]⟩ : Shape).Idx → EReal)
    (x1 : (⟨2, ![1, 1024]⟩ : Shape).Idx → EReal) (x2 : (⟨2, ![1024, 6656]⟩ : Shape).Idx → EReal) :
    (⟨2, ![R, 1024]⟩ : Shape).Idx → EReal := fun i => projAt x0 x1 x2 (i 0) ⟨o + (i 1).val, Nat.lt_of_lt_of_le (Nat.add_lt_add_left (show (i 1).val < 1024 from (i 1).isLt) o) hb⟩

/-- What the eleven results of the mixing projection are, in terms of its five arguments. -/
structure Results (x0 : (⟨2, ![65536, 1024]⟩ : Shape).Idx → EReal) (x1 : (⟨2, ![1, 1024]⟩ : Shape).Idx → EReal)
    (x2 : (⟨2, ![1024, 6656]⟩ : Shape).Idx → EReal) (x3 : (⟨2, ![1024, 5632]⟩ : Shape).Idx → EReal)
    (x4 : (⟨2, ![2816, 1024]⟩ : Shape).Idx → EReal) (rq rk : (⟨3, ![4, 65536, 128]⟩ : Shape).Idx → EReal)
    (rv rg : (⟨3, ![4, 65536, 256]⟩ : Shape).Idx → EReal) (nq nk nv : (⟨3, ![4, 65536, 128]⟩ : Shape).Idx → EReal)
    (gr gn : (⟨2, ![65536, 1024]⟩ : Shape).Idx → EReal) (wi : (⟨2, ![1024, 5632]⟩ : Shape).Idx → EReal)
    (wo : (⟨2, ![2816, 1024]⟩ : Shape).Idx → EReal) : Prop where
  rq : rq = rotArr 0 (by omega) id x0 x1 x2 (fun r => cosT (posOf r).val) fun r => sinT (posOf r).val
  rk : rk = rotArr 512 (by omega) (fun v => v * keyScale) x0 x1 x2 (fun r => cosT (posOf r).val) fun r => sinT (posOf r).val
  rv : rv = grpArr 1024 256 (by omega) id x0 x1 x2
  rg : rg = grpArr 2048 256 (by omega) gate x0 x1 x2
  nq : nq = grpArr 3072 128 (by omega) (fun v => v * naScale) x0 x1 x2
  nk : nk = grpArr 3584 128 (by omega) id x0 x1 x2
  nv : nv = grpArr 4096 128 (by omega) id x0 x1 x2
  gr : gr = gateArr 4608 (by omega) x0 x1 x2
  gn : gn = gateArr 5632 (by omega) x0 x1 x2
  wi : wi = x3
  wo : wo = x4

/-- The rotation as one product with a doubled table plus one product of the places rolled by half a head. -/
theorem rot_eq (y : Fin 128 → EReal) (cos sin : Fin 64 → EReal) (d : Fin 128) :
    y d * twice cos cos d + y ⟨(d.val + 128 - 64) % 128, Nat.mod_lt _ (by omega)⟩ * twice (fun e => -sin e) sin d =
      rot y cos sin d := by
  unfold rot twice
  split_ifs with h
  · rw [mul_neg, sub_eq_add_neg]
    congr 4
    exact Fin.ext (by show (d.val + 128 - 64) % 128 = d.val + 64; omega)
  · rw [add_comm]
    congr 3
    exact Fin.ext (by show (d.val + 128 - 64) % 128 = d.val - 64; omega)

/-- The same with the tables scaled: the whole rotation scaled. -/
theorem rot_scaled (y : Fin 128 → EReal) (cos sin : Fin 64 → EReal) (s : EReal) (h0 : 0 ≤ s) (ht : s ≠ ⊤) (d : Fin 128) :
    y d * (twice cos cos d * s) + y ⟨(d.val + 128 - 64) % 128, Nat.mod_lt _ (by omega)⟩ * (twice (fun e => -sin e) sin d * s) =
      rot y cos sin d * s := by
  rw [← rot_eq, EReal.right_distrib_of_nonneg_of_ne_top h0 ht, mul_assoc, mul_assoc]

end Cert.In

end

end
-- ==== Proof.InTable.lean ====
/-
  The tables of the rotation: the cosine and sine of each position times each of the 64 inverse wavelengths, as the
  kernel's host lines lay them out for the call.
-/
module

public import proofs.«01_k».proof.Proof.Gen.KInIdeal.Value
public import proofs.«01_k».proof.Proof.InMath
public import Idealize.ShloMosaic.Lib.Pipeline.ValueKit
public import Idealize.ShloMosaic.Lib.StableHlo.ReadAt

@[expose] public section

set_option maxRecDepth 16384

noncomputable section

namespace Cert.In

open Cert.KInIdeal Cert.KInIdeal.Gen Idealize.ShloMosaic Idealize.ShloMosaic.TcCoe Idealize.SL.Sem Cert.RowMath

variable (m : (ℓ : Loc nD τ sig) → Buf (Elt Ideal) ℓ)

set_option maxHeartbeats 4000000 in
/-- The four planes of the table: doubled cosines, sines with the first half negated, and both of these scaled. -/
theorem table (c : Dev nD) (p : Fin 2048) (d : Fin 128) :
    (V m c main_v24 : Vec Ideal S4x2048x128 .f32) (ix3 0 p d) = twice (cosT p.val) (cosT p.val) d ∧
    (V m c main_v24 : Vec Ideal S4x2048x128 .f32) (ix3 1 p d) = twice (fun e => -sinT p.val e) (sinT p.val) d ∧
    (V m c main_v24 : Vec Ideal S4x2048x128 .f32) (ix3 2 p d) = twice (cosT p.val) (cosT p.val) d * keyScale ∧
    (V m c main_v24 : Vec Ideal S4x2048x128 .f32) (ix3 3 p d) = twice (fun e => -sinT p.val e) (sinT p.val) d * keyScale := by
  unfold V
  simp only [hostOps0, hostOps0_1, hostOps0_2, List.flatten_cons, List.flatten_nil, List.append_nil, List.cons_append,
    List.nil_append]
  refine ⟨?_, ?_, ?_, ?_⟩
  all_goals
    after_reads_at
    after_reads_at
    after_reads_at
    after_reads_at
    rfl

end Cert.In

end

end
-- ==== Proof.InTile.lean ====
/-
  The tiles a grid point of the mixing projection writes: groups of columns of its rows' projection, some of them turned.
-/
module

public import proofs.«01_k».proof.Proof.Gen.KInIdeal.Value
public import proofs.«01_k».proof.Proof.InMath
public import proofs.«01_k».proof.Proof.Bands
public import Idealize.ShloMosaic.Lib.Pipeline.ValueKit

@[expose] public section

set_option maxRecDepth 16384

noncomputable section

namespace Cert.In

open Cert.KInIdeal Cert.KInIdeal.Gen Idealize.ShloMosaic Idealize.ShloMosaic.TcCoe Idealize.SL.Sem Cert.RowMath

/-- Four groups of a block, turned by a table's two planes: the group times the one, its roll by half times the other. -/
def rollArr {R : ℕ} (o : ℕ) (hb : o + 4 * 128 ≤ 6656) (pc ps : Fin 4) (x0 : (⟨2, ![R, 1024]⟩ : Shape).Idx → EReal)
    (x1 : (⟨2, ![1, 1024]⟩ : Shape).Idx → EReal) (x2 : (⟨2, ![1024, 6656]⟩ : Shape).Idx → EReal)
    (x3 : (⟨3, ![4, R, 128]⟩ : Shape).Idx → EReal) : (⟨3, ![4, R, 128]⟩ : Shape).Idx → EReal := fun i =>
  groups o 128 hb id x0 x1 x2 (i 0) (i 1) (i 2) * x3 (ix3 pc (i 1) (i 2)) +
    groups o 128 hb id x0 x1 x2 (i 0) (i 1) ⟨((i 2).val + 128 - 64) % 128, Nat.mod_lt _ (by omega)⟩ * x3 (ix3 ps (i 1) (i 2))

/-- Where a tile of one group and 256 rows places its own index. -/
theorem emb_tile {n q r : ℕ} (hq : q < 4) (hr : r + 256 ≤ 512)
    {inb : ∀ a, (![q, r, 0] : Fin 3 → ℕ) a + (![1, 256, n] : Fin 3 → ℕ) a ≤ (⟨3, ![4, 512, n]⟩ : Shape).size a}
    (x : (⟨3, ![1, 256, n]⟩ : Shape).Idx) :
    (Rect.unit (s := ⟨3, ![4, 512, n]⟩) ![q, r, 0] ![1, 256, n] inb).emb x =
      ix3 ⟨q, hq⟩ ⟨r + (x 1).val, by have : (x 1).val < 256 := (x 1).isLt; omega⟩ (x 2) :=
  funext fun a => Fin.ext (by
    match a with
    | ⟨0, _⟩ => show q + 1 * (x 0).val = q; have : (x 0).val < 1 := (x 0).isLt; omega
    | ⟨1, _⟩ => show r + 1 * (x 1).val = r + (x 1).val; omega
    | ⟨2, _⟩ => show 0 + 1 * (x 2).val = (x 2).val; omega)

/-- A tile of an array over groups and rows, from the tile's elements. -/
theorem tile_eq {n q r : ℕ} (hq : q < 4) (hr : r + 256 ≤ 512)
    {inb : ∀ a, (![q, r, 0] : Fin 3 → ℕ) a + (![1, 256, n] : Fin 3 → ℕ) a ≤ (⟨3, ![4, 512, n]⟩ : Shape).size a}
    (P : (⟨3, ![1, 256, n]⟩ : Shape).Idx → EReal) (G : (⟨3, ![4, 512, n]⟩ : Shape).Idx → EReal)
    (h : ∀ (a : Fin 256) (k : Fin n), P (ix3 0 a k) = G (ix3 ⟨q, hq⟩ ⟨r + a.val, by omega⟩ k))
    (x : (⟨3, ![1, 256, n]⟩ : Shape).Idx) :
    P x = G ((Rect.unit (s := ⟨3, ![4, 512, n]⟩) ![q, r, 0] ![1, 256, n] inb).emb x) := by
  rw [emb_tile hq hr]
  refine Eq.trans (congrArg P (funext fun a => Fin.ext ?_)) (h (x 1) (x 2))
  match a with
  | ⟨0, _⟩ => show (x 0).val = 0; have : (x 0).val < 1 := (x 0).isLt; omega
  | ⟨1, _⟩ => rfl
  | ⟨2, _⟩ => rfl

variable (x0 : Vec Ideal S512x1024 .f32) (x1 : Vec Ideal S1x1024 .f32) (x2 : Vec Ideal S1024x6656 .bf16)
  (x3 : Vec Ideal S4x512x128 .f32) (x4 : Vec Ideal S16x5632 .f32) (x5 : Vec Ideal S32x1024 .f32)

/-- A tile of the groups of columns. -/
theorem grp_tile {n q r : ℕ} (hq : q < 4) (hr : r + 256 ≤ 512)
    {inb : ∀ a, (![q, r, 0] : Fin 3 → ℕ) a + (![1, 256, n] : Fin 3 → ℕ) a ≤ (⟨3, ![4, 512, n]⟩ : Shape).size a}
    (o : ℕ) (hb : o + 4 * n ≤ 6656) (f : EReal → EReal) (P : (⟨3, ![1, 256, n]⟩ : Shape).Idx → EReal)
    (h : ∀ (a : Fin 256) (k : Fin n), P (ix3 0 a k) = f (projAt x0 x1 x2 ⟨r + a.val, by omega⟩ ⟨o + (q * n + k.val), by
      have := Nat.mul_le_mul_right n (show q ≤ 3 by omega); omega⟩))
    (x : (⟨3, ![1, 256, n]⟩ : Shape).Idx) :
    P x = grpArr o n hb f x0 x1 x2 ((Rect.unit (s := ⟨3, ![4, 512, n]⟩) ![q, r, 0] ![1, 256, n] inb).emb x) :=
  tile_eq hq hr P _ h x

/-- A tile of the turned groups of columns. -/
theorem roll_tile {q r : ℕ} (hq : q < 4) (hr : r + 256 ≤ 512)
    {inb : ∀ a, (![q, r, 0] : Fin 3 → ℕ) a + (![1, 256, 128] : Fin 3 → ℕ) a ≤ (⟨3, ![4, 512, 128]⟩ : Shape).size a}
    (o : ℕ) (hb : o + 4 * 128 ≤ 6656) (pc ps : Fin 4) (P : (⟨3, ![1, 256, 128]⟩ : Shape).Idx → EReal)
    (h : ∀ (a : Fin 256) (k : Fin 128), P (ix3 0 a k) =
      projAt x0 x1 x2 ⟨r + a.val, by omega⟩ ⟨o + (q * 128 + k.val), by omega⟩ * x3 (ix3 pc ⟨r + a.val, by omega⟩ k) +
        projAt x0 x1 x2 ⟨r + a.val, by omega⟩ ⟨o + (q * 128 + (k.val + 128 - 64) % 128), by omega⟩ *
          x3 (ix3 ps ⟨r + a.val, by omega⟩ k))
    (x : (⟨3, ![1, 256, 128]⟩ : Shape).Idx) :
    P x = rollArr o hb pc ps x0 x1 x2 x3 ((Rect.unit (s := ⟨3, ![4, 512, 128]⟩) ![q, r, 0] ![1, 256, 128] inb).emb x) :=
  tile_eq hq hr P _ h x

/-- The groups of a block, typed as a window's block. -/
def grp256 (o : ℕ) (hb : o + 4 * 256 ≤ 6656) (f : EReal → EReal) : Vec Ideal S4x512x256 .bf16 := grpArr o 256 hb f x0 x1 x2
/-- The groups of a block, typed as a window's block. -/
def grp128 (o : ℕ) (hb : o + 4 * 128 ≤ 6656) (f : EReal → EReal) : Vec Ideal S4x512x128 .bf16 := grpArr o 128 hb f x0 x1 x2
/-- The turned groups of a block, typed as a window's block. -/
def roll128 (o : ℕ) (hb : o + 4 * 128 ≤ 6656) (pc ps : Fin 4) : Vec Ideal S4x512x128 .bf16 := rollArr o hb pc ps x0 x1 x2 x3

/-- The gate columns of a block, typed as a window's block. -/
def gateBlk (o : ℕ) (hb : o + 1024 ≤ 6656) : Vec Ideal S512x1024 .bf16 := gateArr o hb x0 x1 x2

/-- A tile of the gate columns. -/
theorem gate_tile {r : ℕ} (hr : r + 256 ≤ 512)
    {inb : ∀ a, (![r, 0] : Fin 2 → ℕ) a + (![256, 1024] : Fin 2 → ℕ) a ≤ (⟨2, ![512, 1024]⟩ : Shape).size a}
    (o : ℕ) (hb : o + 1024 ≤ 6656) (P : (⟨2, ![256, 1024]⟩ : Shape).Idx → EReal)
    (h : ∀ (a : Fin 256) (k : Fin 1024), P (ix2 a k) = projAt x0 x1 x2 ⟨r + a.val, by omega⟩ ⟨o + k.val, by omega⟩)
    (x : (⟨2, ![256, 1024]⟩ : Shape).Idx) :
    P x = gateArr o hb x0 x1 x2 ((Rect.unit (s := ⟨2, ![512, 1024]⟩) ![r, 0] ![256, 1024] inb).emb x) := by
  obtain ⟨a, k, rfl⟩ : ∃ (a : Fin 256) (k : Fin 1024), x = ix2 a k := ⟨x 0, x 1, eq_ix2 x⟩
  rw [Bands.emb_ix2 a k (by omega) (by omega), h]
  simp only [Nat.zero_add]
  rfl

end Cert.In

end

end
-- ==== Proof.InRun.lean ====
/-
  The mixing projection's result arrays after the run: the blocks of each side by side.
-/
module

public import proofs.«01_k».proof.Proof.InTable
public import proofs.«01_k».proof.Proof.InTile

@[expose] public section

set_option maxRecDepth 16384

noncomputable section

namespace Cert.In

open Cert.KInIdeal Cert.KInIdeal.Gen Idealize.ShloMosaic Idealize.ShloMosaic.TcCoe Idealize.SL.Sem Cert.RowMath

variable (m : (ℓ : Loc nD τ sig) → Buf (Elt Ideal) ℓ) (ρ : Dev nD → PrngReg)

/-- Where each input window's block lies at a grid point. -/
theorem index_in (t : Fin grid0.N) : win0_0.index t = ![t.val, 0] ∧ win0_1.index t = ![0, 0] ∧
    win0_2.index t = ![0, 0] ∧ win0_3.index t = ![0, t.val % 4, 0] ∧ win0_4.index t = ![min t.val 63, 0] ∧
    win0_5.index t = ![min t.val 87, 0] :=
  (by decide +kernel : ∀ t : Fin grid0.N, win0_0.index t = ![t.val, 0] ∧ win0_1.index t = ![0, 0] ∧
    win0_2.index t = ![0, 0] ∧ win0_3.index t = ![0, t.val % 4, 0] ∧ win0_4.index t = ![min t.val 63, 0] ∧
    win0_5.index t = ![min t.val 87, 0]) t

/-- Where each output window's block lies at a grid point. -/
theorem index_out (t : Fin grid0.N) : win0_6.index t = ![0, t.val, 0] ∧ win0_7.index t = ![0, t.val, 0] ∧
    win0_8.index t = ![0, t.val, 0] ∧ win0_9.index t = ![0, t.val, 0] ∧ win0_10.index t = ![0, t.val, 0] ∧
    win0_11.index t = ![0, t.val, 0] ∧ win0_12.index t = ![0, t.val, 0] ∧ win0_13.index t = ![t.val, 0] ∧
    win0_14.index t = ![t.val, 0] ∧ win0_15.index t = ![min t.val 63, 0] ∧ win0_16.index t = ![min t.val 87, 0] :=
  (by decide +kernel : ∀ t : Fin grid0.N, win0_6.index t = ![0, t.val, 0] ∧ win0_7.index t = ![0, t.val, 0] ∧
    win0_8.index t = ![0, t.val, 0] ∧ win0_9.index t = ![0, t.val, 0] ∧ win0_10.index t = ![0, t.val, 0] ∧
    win0_11.index t = ![0, t.val, 0] ∧ win0_12.index t = ![0, t.val, 0] ∧ win0_13.index t = ![t.val, 0] ∧
    win0_14.index t = ![t.val, 0] ∧ win0_15.index t = ![min t.val 63, 0] ∧ win0_16.index t = ![min t.val 87, 0]) t

/-- There are 128 grid points. -/
theorem point_lt (t : Fin cfg0.N) : t.val < 128 := lt_of_lt_of_eq t.isLt (by decide +kernel : grid0.N = 128)

/-- The row of the arrays that a point's row is. -/
def rowOf (t : Fin cfg0.N) (a : Fin 512) : Fin 65536 := ⟨t.val * 512 + a.val, by have := point_lt t; omega⟩

/-- A point's block of rows. -/
theorem in0 (c : Dev nD) (t : Fin cfg0.N) (a : Fin 512) (k : Fin 1024) : iblk (F := Ideal) m c 0 t (ix2 a k) =
    m ((c : Thread nD τ).loc main_arg0) (ix2 (rowOf t a) k) := by
  rw [← V_main_arg0 m c]
  blk_ext [iblk, index_in t, rowOf]

/-- A point's gain, which is whole. -/
theorem in1 (c : Dev nD) (t : Fin cfg0.N) (k : Fin 1024) : iblk (F := Ideal) m c 1 t (ix2 0 k) =
    m ((c : Thread nD τ).loc main_arg1) (ix2 0 k) := by
  rw [← V_main_arg1 m c]
  blk_ext [iblk, index_in t, rowOf]

/-- A point's weights, which are whole. -/
theorem in2 (c : Dev nD) (t : Fin cfg0.N) (k : Fin 1024) (d : Fin 6656) : iblk (F := Ideal) m c 2 t (ix2 k d) =
    m ((c : Thread nD τ).loc main_arg2) (ix2 k d) := by
  rw [← V_main_arg2 m c]
  blk_ext [iblk, index_in t, rowOf]

/-- A point's block of the rotation tables. -/
theorem in3 (c : Dev nD) (t : Fin cfg0.N) (j : Fin 4) (a : Fin 512) (d : Fin 128) : iblk (F := Ideal) m c 3 t (ix3 j a d) =
    (V m c main_v24 : Vec Ideal S4x2048x128 .f32) (ix3 j ⟨t.val % 4 * 512 + a.val, by omega⟩ d) := by
  blk_ext [iblk, index_in t, rowOf]

/-- A point's rows of the first weights that are cast along the way. -/
theorem in4 (c : Dev nD) (t : Fin cfg0.N) (a : Fin 16) (d : Fin 5632) : iblk (F := Ideal) m c 4 t (ix2 a d) =
    m ((c : Thread nD τ).loc main_arg3) (ix2 ⟨min t.val 63 * 16 + a.val, by omega⟩ d) := by
  rw [← V_main_arg3 m c]
  blk_ext [iblk, index_in t, rowOf]

/-- A point's rows of the second weights that are cast along the way. -/
theorem in5 (c : Dev nD) (t : Fin cfg0.N) (a : Fin 32) (d : Fin 1024) : iblk (F := Ideal) m c 5 t (ix2 a d) =
    m ((c : Thread nD τ).loc main_arg4) (ix2 ⟨min t.val 87 * 32 + a.val, by omega⟩ d) := by
  rw [← V_main_arg4 m c]
  blk_ext [iblk, index_in t, rowOf]

/-- The position of a point's row in its sequence. -/
theorem pos_row (t : Fin cfg0.N) (a : Fin 512) : (posOf (rowOf t a)).val = t.val % 4 * 512 + a.val := by
  rw [posOf_val]
  show (t.val * 512 + a.val) % 2048 = _
  have := point_lt t
  omega

/-- A projected row of a point's blocks is that row of the arguments' projection. -/
theorem projAt_blk (c : Dev nD) (t : Fin cfg0.N) (a : Fin 512) (d : Fin 6656) :
    projAt (iblk (F := Ideal) m c 0 t) (iblk (F := Ideal) m c 1 t) (iblk (F := Ideal) m c 2 t) a d =
      projAt (m ((c : Thread nD τ).loc main_arg0)) (m ((c : Thread nD τ).loc main_arg1))
        (m ((c : Thread nD τ).loc main_arg2)) (rowOf t a) d := by
  unfold projAt
  simp only [in0, in1, in2]

/-- Four groups of a point's rows are those groups of the arrays. -/
theorem groups_blk (c : Dev nD) (t : Fin cfg0.N) (o n : ℕ) (hb : o + 4 * n ≤ 6656) (f : EReal → EReal) (q : Fin 4)
    (a : Fin 512) (k : Fin n) :
    groups o n hb f (iblk (F := Ideal) m c 0 t) (iblk (F := Ideal) m c 1 t) (iblk (F := Ideal) m c 2 t) q a k =
      groups o n hb f (m ((c : Thread nD τ).loc main_arg0)) (m ((c : Thread nD τ).loc main_arg1))
        (m ((c : Thread nD τ).loc main_arg2)) q (rowOf t a) k := by
  unfold groups
  rw [projAt_blk]

/-- The scale of the keys is a nonnegative finite number. -/
theorem keyScale_pos : 0 ≤ keyScale ∧ keyScale ≠ ⊤ := by
  unfold keyScale
  simp [Ideal.ofBits, Ideal.ieee]
  norm_cast
  constructor
  · positivity
  · exact EReal.coe_ne_top _

/-- The turned groups at an index given by its three coordinates. -/
theorem rollArr_ix {R : ℕ} (o : ℕ) (hb : o + 4 * 128 ≤ 6656) (pc ps : Fin 4)
    (x0 : (⟨2, ![R, 1024]⟩ : Shape).Idx → EReal) (x1 : (⟨2, ![1, 1024]⟩ : Shape).Idx → EReal)
    (x2 : (⟨2, ![1024, 6656]⟩ : Shape).Idx → EReal) (x3 : (⟨3, ![4, R, 128]⟩ : Shape).Idx → EReal) (q : Fin 4)
    (a : Fin R) (k : Fin 128) : rollArr o hb pc ps x0 x1 x2 x3 (ix3 q a k) =
      groups o 128 hb id x0 x1 x2 q a k * x3 (ix3 pc a k) +
        groups o 128 hb id x0 x1 x2 q a ⟨(k.val + 128 - 64) % 128, Nat.mod_lt _ (by omega)⟩ * x3 (ix3 ps a k) := rfl

/-- The rotated groups at an index given by its three coordinates. -/
theorem rotArr_ix {R : ℕ} (o : ℕ) (hb : o + 4 * 128 ≤ 6656) (f : EReal → EReal)
    (x0 : (⟨2, ![R, 1024]⟩ : Shape).Idx → EReal) (x1 : (⟨2, ![1, 1024]⟩ : Shape).Idx → EReal)
    (x2 : (⟨2, ![1024, 6656]⟩ : Shape).Idx → EReal) (cos sin : Fin R → Fin 64 → EReal) (q : Fin 4)
    (a : Fin R) (k : Fin 128) : rotArr o hb f x0 x1 x2 cos sin (ix3 q a k) =
      f (rot (fun d => groups o 128 hb id x0 x1 x2 q a d) (cos a) (sin a) k) := rfl

/-- The queries' groups turned by a point's table are the rotated groups of the arrays. -/
theorem roll_query (c : Dev nD) (t : Fin cfg0.N) (q : Fin 4) (a : Fin 512) (k : Fin 128) :
    rollArr 0 (by omega) 0 1 (iblk (F := Ideal) m c 0 t) (iblk (F := Ideal) m c 1 t) (iblk (F := Ideal) m c 2 t)
        (iblk (F := Ideal) m c 3 t) (ix3 q a k) =
      rotArr 0 (by omega) id (m ((c : Thread nD τ).loc main_arg0)) (m ((c : Thread nD τ).loc main_arg1))
        (m ((c : Thread nD τ).loc main_arg2)) (fun r => cosT (posOf r).val) (fun r => sinT (posOf r).val)
        (ix3 q (rowOf t a) k) := by
  obtain ⟨h0, h1, -, -⟩ := table m c ⟨t.val % 4 * 512 + a.val, by omega⟩ k
  rw [rollArr_ix, rotArr_ix, in3, in3, h0, h1, pos_row, groups_blk, groups_blk]
  exact rot_eq _ _ _ k

/-- The keys' groups turned by a point's scaled table are the rotated and scaled groups of the arrays. -/
theorem roll_key (c : Dev nD) (t : Fin cfg0.N) (q : Fin 4) (a : Fin 512) (k : Fin 128) :
    rollArr 512 (by omega) 2 3 (iblk (F := Ideal) m c 0 t) (iblk (F := Ideal) m c 1 t) (iblk (F := Ideal) m c 2 t)
        (iblk (F := Ideal) m c 3 t) (ix3 q a k) =
      rotArr 512 (by omega) (fun v => v * keyScale) (m ((c : Thread nD τ).loc main_arg0))
        (m ((c : Thread nD τ).loc main_arg1)) (m ((c : Thread nD τ).loc main_arg2)) (fun r => cosT (posOf r).val)
        (fun r => sinT (posOf r).val) (ix3 q (rowOf t a) k) := by
  obtain ⟨-, -, h0, h1⟩ := table m c ⟨t.val % 4 * 512 + a.val, by omega⟩ k
  rw [rollArr_ix, rotArr_ix, in3, in3, h0, h1, pos_row, groups_blk, groups_blk]
  exact rot_scaled _ _ _ keyScale keyScale_pos.1 keyScale_pos.2 k

end Cert.In

end

end
-- ==== Proof.InBlock.lean ====
/-
  What one grid point of the mixing projection writes: the groups of columns that are not turned.
-/
module

public import proofs.«01_k».proof.Proof.Gen.KInIdeal.Value
public import proofs.«01_k».proof.Proof.InTile
public import Idealize.ShloMosaic.Lib.Pipeline.ValueKit

@[expose] public section

set_option maxRecDepth 16384

noncomputable section

namespace Cert.In

open Cert.KInIdeal Cert.KInIdeal.Gen Idealize.ShloMosaic Idealize.ShloMosaic.TcCoe Idealize.SL.Sem Cert.RowMath

variable (x0 : Vec Ideal S512x1024 .f32) (x1 : Vec Ideal S1x1024 .f32) (x2 : Vec Ideal S1024x6656 .bf16)
  (x3 : Vec Ideal S4x512x128 .f32) (x4 : Vec Ideal S16x5632 .f32) (x5 : Vec Ideal S32x1024 .f32)

/-- The values of a block. -/
theorem block8 (y : S4x512x256.Idx) : out0_8 x0 x1 x2 x3 x4 x5 y = grpArr 1024 256 (by omega) id x0 x1 x2 y := by
  frame_out
  refine View.canon_append_of_piecesOf (grp256 x0 x1 x2 1024 (by omega) id) []
    [_, _, _, _, _, _, _, _] ⟨?_, ?_, ?_, ?_, ?_, ?_, ?_, ?_, trivial⟩ y
    (View.cover_of_tiledL _ ![1, 256, 256] (by sl_kernel_rfl) y)
  all_goals
    refine grp_tile x0 x1 x2 (inb := by decide) (by decide) (by decide) 1024 (by omega) id _ fun a k => ?_
    pointwise [k0_pay6, k0_pay7, k0_pay8, k0_pay28, k0_pay29, k0_pay30, k0_pay31, k0_pay32, k0_pay33, k0_pay76,
      k0_pay77, k0_pay78, k0_pay79, k0_pay80, k0_pay81, k0_pay103, k0_pay104]
    rfl

/-- The gates of the retention of a block. -/
theorem block9 (y : S4x512x256.Idx) : out0_9 x0 x1 x2 x3 x4 x5 y = grpArr 2048 256 (by omega) gate x0 x1 x2 y := by
  frame_out
  refine View.canon_append_of_piecesOf (grp256 x0 x1 x2 2048 (by omega) gate) []
    [_, _, _, _, _, _, _, _] ⟨?_, ?_, ?_, ?_, ?_, ?_, ?_, ?_, trivial⟩ y
    (View.cover_of_tiledL _ ![1, 256, 256] (by sl_kernel_rfl) y)
  all_goals
    refine grp_tile x0 x1 x2 (inb := by decide) (by decide) (by decide) 2048 (by omega) gate _ fun a k => ?_
    pointwise [k0_pay6, k0_pay7, k0_pay8, k0_pay34, k0_pay35, k0_pay36, k0_pay37, k0_pay38, k0_pay82, k0_pay83,
      k0_pay84, k0_pay85, k0_pay86, k0_pay103, k0_pay104]
    rfl

/-- The scaled queries of the neighbourhood attention of a block. -/
theorem block10 (y : S4x512x128.Idx) : out0_10 x0 x1 x2 x3 x4 x5 y = grpArr 3072 128 (by omega) (fun v => v * naScale) x0 x1 x2 y := by
  frame_out
  refine View.canon_append_of_piecesOf (grp128 x0 x1 x2 3072 (by omega) (fun v => v * naScale)) []
    [_, _, _, _, _, _, _, _] ⟨?_, ?_, ?_, ?_, ?_, ?_, ?_, ?_, trivial⟩ y
    (View.cover_of_tiledL _ ![1, 256, 128] (by sl_kernel_rfl) y)
  all_goals
    refine grp_tile x0 x1 x2 (inb := by decide) (by decide) (by decide) 3072 (by omega) (fun v => v * naScale) _ fun a k => ?_
    pointwise [k0_pay6, k0_pay7, k0_pay8, k0_pay39, k0_pay40, k0_pay41, k0_pay42, k0_pay43, k0_pay44, k0_pay87,
      k0_pay88, k0_pay89, k0_pay90, k0_pay91, k0_pay103, k0_pay104, k0_pay105]
    rfl

/-- Its keys. -/
theorem block11 (y : S4x512x128.Idx) : out0_11 x0 x1 x2 x3 x4 x5 y = grpArr 3584 128 (by omega) id x0 x1 x2 y := by
  frame_out
  refine View.canon_append_of_piecesOf (grp128 x0 x1 x2 3584 (by omega) id) []
    [_, _, _, _, _, _, _, _] ⟨?_, ?_, ?_, ?_, ?_, ?_, ?_, ?_, trivial⟩ y
    (View.cover_of_tiledL _ ![1, 256, 128] (by sl_kernel_rfl) y)
  all_goals
    refine grp_tile x0 x1 x2 (inb := by decide) (by decide) (by decide) 3584 (by omega) id _ fun a k => ?_
    pointwise [k0_pay6, k0_pay7, k0_pay8, k0_pay45, k0_pay46, k0_pay47, k0_pay48, k0_pay49, k0_pay50, k0_pay92,
      k0_pay93, k0_pay94, k0_pay95, k0_pay96, k0_pay97, k0_pay103, k0_pay104, k0_pay110]
    rfl

/-- Its values. -/
theorem block12 (y : S4x512x128.Idx) : out0_12 x0 x1 x2 x3 x4 x5 y = grpArr 4096 128 (by omega) id x0 x1 x2 y := by
  frame_out
  refine View.canon_append_of_piecesOf (grp128 x0 x1 x2 4096 (by omega) id) []
    [_, _, _, _, _, _, _, _] ⟨?_, ?_, ?_, ?_, ?_, ?_, ?_, ?_, trivial⟩ y
    (View.cover_of_tiledL _ ![1, 256, 128] (by sl_kernel_rfl) y)
  all_goals
    refine grp_tile x0 x1 x2 (inb := by decide) (by decide) (by decide) 4096 (by omega) id _ fun a k => ?_
    pointwise [k0_pay1, k0_pay6, k0_pay7, k0_pay8, k0_pay51, k0_pay52, k0_pay53, k0_pay54, k0_pay55, k0_pay98,
      k0_pay99, k0_pay100, k0_pay101, k0_pay102, k0_pay103, k0_pay104]
    rfl

/-- The gates of the retention branch of a block. -/
theorem block13 (y : S512x1024.Idx) : out0_13 x0 x1 x2 x3 x4 x5 y = gateArr 4608 (by omega) x0 x1 x2 y := by
  frame_out
  refine View.canon_append_of_piecesOf (gateBlk x0 x1 x2 4608 (by omega)) [] [_, _] ⟨?_, ?_, trivial⟩ y
    (View.cover_of_tiledL _ ![256, 1024] (by sl_kernel_rfl) y)
  all_goals
    refine gate_tile x0 x1 x2 (inb := by decide) (by decide) 4608 (by omega) _ fun a k => ?_
    pointwise [k0_pay2, k0_pay56, k0_pay103, k0_pay104, k0_pay6, k0_pay7, k0_pay8]
    rfl

/-- The gates of the attention branch of a block. -/
theorem block14 (y : S512x1024.Idx) : out0_14 x0 x1 x2 x3 x4 x5 y = gateArr 5632 (by omega) x0 x1 x2 y := by
  frame_out
  refine View.canon_append_of_piecesOf (gateBlk x0 x1 x2 5632 (by omega)) [] [_, _] ⟨?_, ?_, trivial⟩ y
    (View.cover_of_tiledL _ ![256, 1024] (by sl_kernel_rfl) y)
  all_goals
    refine gate_tile x0 x1 x2 (inb := by decide) (by decide) 5632 (by omega) _ fun a k => ?_
    pointwise [k0_pay3, k0_pay57, k0_pay103, k0_pay104, k0_pay6, k0_pay7, k0_pay8]
    rfl

/-- The block of the first weight matrix that is cast at a point. -/
theorem block15 (y : S16x5632.Idx) : out0_15 x0 x1 x2 x3 x4 x5 y = x4 y := by
  frame_out
  rfl

/-- The block of the second weight matrix that is cast at a point. -/
theorem block16 (y : S32x1024.Idx) : out0_16 x0 x1 x2 x3 x4 x5 y = x5 y := by
  frame_out
  rfl

end Cert.In

end

end
-- ==== Proof.InRoll.lean ====
/-
  What one grid point of the mixing projection writes: the turned groups of columns.
-/
module

public import proofs.«01_k».proof.Proof.Gen.KInIdeal.Value
public import proofs.«01_k».proof.Proof.InTile
public import Idealize.ShloMosaic.Lib.Pipeline.ValueKit

@[expose] public section

set_option maxRecDepth 16384

noncomputable section

namespace Cert.In

open Cert.KInIdeal Cert.KInIdeal.Gen Idealize.ShloMosaic Idealize.ShloMosaic.TcCoe Idealize.SL.Sem Cert.RowMath

variable (x0 : Vec Ideal S512x1024 .f32) (x1 : Vec Ideal S1x1024 .f32) (x2 : Vec Ideal S1024x6656 .bf16)
  (x3 : Vec Ideal S4x512x128 .f32) (x4 : Vec Ideal S16x5632 .f32) (x5 : Vec Ideal S32x1024 .f32)

/-- The queries of a block. -/
theorem block6 (y : S4x512x128.Idx) : out0_6 x0 x1 x2 x3 x4 x5 y = rollArr 0 (by omega) 0 1 x0 x1 x2 x3 y := by
  frame_out
  refine View.canon_append_of_piecesOf (roll128 x0 x1 x2 x3 0 (by omega) 0 1) []
    [_, _, _, _, _, _, _, _] ⟨?_, ?_, ?_, ?_, ?_, ?_, ?_, ?_, trivial⟩ y
    (View.cover_of_tiledL _ ![1, 256, 128] (by sl_kernel_rfl) y)
  all_goals
    refine roll_tile x0 x1 x2 x3 (inb := by decide) (by decide) (by decide) 0 (by omega) 0 1 _ fun a k => ?_
    pointwise [k0_pay6, k0_pay7, k0_pay8, k0_pay9, k0_pay10, k0_pay11, k0_pay12, k0_pay13, k0_pay14, k0_pay15,
      k0_pay16, k0_pay17, k0_pay58, k0_pay59, k0_pay60, k0_pay61, k0_pay62, k0_pay63, k0_pay64, k0_pay65, k0_pay66,
      k0_pay67, k0_pay103, k0_pay104, k0_pay106]
    rfl

/-- The keys of a block. -/
theorem block7 (y : S4x512x128.Idx) : out0_7 x0 x1 x2 x3 x4 x5 y = rollArr 512 (by omega) 2 3 x0 x1 x2 x3 y := by
  frame_out
  refine View.canon_append_of_piecesOf (roll128 x0 x1 x2 x3 512 (by omega) 2 3) []
    [_, _, _, _, _, _, _, _] ⟨?_, ?_, ?_, ?_, ?_, ?_, ?_, ?_, trivial⟩ y
    (View.cover_of_tiledL _ ![1, 256, 128] (by sl_kernel_rfl) y)
  all_goals
    refine roll_tile x0 x1 x2 x3 (inb := by decide) (by decide) (by decide) 512 (by omega) 2 3 _ fun a k => ?_
    pointwise [k0_pay6, k0_pay7, k0_pay8, k0_pay18, k0_pay19, k0_pay20, k0_pay21, k0_pay22, k0_pay23, k0_pay24,
      k0_pay25, k0_pay26, k0_pay27, k0_pay68, k0_pay69, k0_pay70, k0_pay71, k0_pay72, k0_pay73, k0_pay74, k0_pay75,
      k0_pay103, k0_pay104, k0_pay107, k0_pay108, k0_pay109]
    rfl

end Cert.In

end

end
-- ==== Proof.InFinal.lean ====
/-
  Where the mixing projection's output blocks lie, and what each result array is after the run.
-/
module

public import proofs.«01_k».proof.Proof.InRun
public import proofs.«01_k».proof.Proof.InBlock
public import proofs.«01_k».proof.Proof.InRoll

@[expose] public section

set_option maxRecDepth 16384

noncomputable section

namespace Cert.In

open Cert.KInIdeal Cert.KInIdeal.Gen Idealize.ShloMosaic Idealize.ShloMosaic.TcCoe Idealize.SL.Sem Cert.RowMath

variable (m : (ℓ : Loc nD τ sig) → Buf (Elt Ideal) ℓ) (ρ : Dev nD → PrngReg)

/-- Where a point's block of output 6 lies in its array. -/
theorem emb6 (t : Fin cfg0.N) (q : Fin 4) (a : Fin 512) (k : Fin 128) :
    (win0_6.blk t).view.emb (ix3 q a k) = ix3 q (rowOf t a) k := by
  blk_ext [index_out t, rowOf]

/-- After the run: the rotated queries. -/
theorem final6 (c : Dev nD) : (dats (F := Ideal) m 0 c).arrAt 6 cfg0.N =
    rotArr 0 (by omega) id
      (m ((c : Thread nD τ).loc main_arg0)) (m ((c : Thread nD τ).loc main_arg1)) (m ((c : Thread nD τ).loc main_arg2))
      (fun r => cosT (posOf r).val)
      (fun r => sinT (posOf r).val) := by
  refine (dats (F := Ideal) m 0 c).arrAt_eq_of_covers 6 _ (by decide +kernel) fun t hf y => ?_
  blk_simp
  rw [after0_6]
  obtain ⟨q, a, k, rfl⟩ : ∃ (q : Fin 4) (a : Fin 512) (k : Fin 128), y = ix3 q a k := ⟨y 0, y 1, y 2, eq_ix3 y⟩
  rw [emb6]
  refine (block6 _ _ _ _ _ _ _).trans ?_
  exact roll_query m c t q a k

/-- Where a point's block of output 7 lies in its array. -/
theorem emb7 (t : Fin cfg0.N) (q : Fin 4) (a : Fin 512) (k : Fin 128) :
    (win0_7.blk t).view.emb (ix3 q a k) = ix3 q (rowOf t a) k := by
  blk_ext [index_out t, rowOf]

/-- After the run: the rotated and scaled keys. -/
theorem final7 (c : Dev nD) : (dats (F := Ideal) m 0 c).arrAt 7 cfg0.N =
    rotArr 512 (by omega) (fun v => v * keyScale)
      (m ((c : Thread nD τ).loc main_arg0)) (m ((c : Thread nD τ).loc main_arg1)) (m ((c : Thread nD τ).loc main_arg2))
      (fun r => cosT (posOf r).val)
      (fun r => sinT (posOf r).val) := by
  refine (dats (F := Ideal) m 0 c).arrAt_eq_of_covers 7 _ (by decide +kernel) fun t hf y => ?_
  blk_simp
  rw [after0_7]
  obtain ⟨q, a, k, rfl⟩ : ∃ (q : Fin 4) (a : Fin 512) (k : Fin 128), y = ix3 q a k := ⟨y 0, y 1, y 2, eq_ix3 y⟩
  rw [emb7]
  refine (block7 _ _ _ _ _ _ _).trans ?_
  exact roll_key m c t q a k

/-- Where a point's block of output 8 lies in its array. -/
theorem emb8 (t : Fin cfg0.N) (q : Fin 4) (a : Fin 512) (k : Fin 256) :
    (win0_8.blk t).view.emb (ix3 q a k) = ix3 q (rowOf t a) k := by
  blk_ext [index_out t, rowOf]

/-- After the run: the values. -/
theorem final8 (c : Dev nD) : (dats (F := Ideal) m 0 c).arrAt 8 cfg0.N =
    grpArr 1024 256 (by omega) id
      (m ((c : Thread nD τ).loc main_arg0)) (m ((c : Thread nD τ).loc main_arg1)) (m ((c : Thread nD τ).loc main_arg2)) := by
  refine (dats (F := Ideal) m 0 c).arrAt_eq_of_covers 8 _ (by decide +kernel) fun t hf y => ?_
  blk_simp
  rw [after0_8]
  obtain ⟨q, a, k, rfl⟩ : ∃ (q : Fin 4) (a : Fin 512) (k : Fin 256), y = ix3 q a k := ⟨y 0, y 1, y 2, eq_ix3 y⟩
  rw [emb8]
  refine (block8 _ _ _ _ _ _ _).trans ?_
  exact groups_blk m c t _ _ _ _ q a k

/-- Where a point's block of output 9 lies in its array. -/
theorem emb9 (t : Fin cfg0.N) (q : Fin 4) (a : Fin 512) (k : Fin 256) :
    (win0_9.blk t).view.emb (ix3 q a k) = ix3 q (rowOf t a) k := by
  blk_ext [index_out t, rowOf]

/-- After the run: the gated groups. -/
theorem final9 (c : Dev nD) : (dats (F := Ideal) m 0 c).arrAt 9 cfg0.N =
    grpArr 2048 256 (by omega) gate
      (m ((c : Thread nD τ).loc main_arg0)) (m ((c : Thread nD τ).loc main_arg1)) (m ((c : Thread nD τ).loc main_arg2)) := by
  refine (dats (F := Ideal) m 0 c).arrAt_eq_of_covers 9 _ (by decide +kernel) fun t hf y => ?_
  blk_simp
  rw [after0_9]
  obtain ⟨q, a, k, rfl⟩ : ∃ (q : Fin 4) (a : Fin 512) (k : Fin 256), y = ix3 q a k := ⟨y 0, y 1, y 2, eq_ix3 y⟩
  rw [emb9]
  refine (block9 _ _ _ _ _ _ _).trans ?_
  exact groups_blk m c t _ _ _ _ q a k

/-- Where a point's block of output 10 lies in its array. -/
theorem emb10 (t : Fin cfg0.N) (q : Fin 4) (a : Fin 512) (k : Fin 128) :
    (win0_10.blk t).view.emb (ix3 q a k) = ix3 q (rowOf t a) k := by
  blk_ext [index_out t, rowOf]

/-- After the run: the neighbourhood's scaled queries. -/
theorem final10 (c : Dev nD) : (dats (F := Ideal) m 0 c).arrAt 10 cfg0.N =
    grpArr 3072 128 (by omega) (fun v => v * naScale)
      (m ((c : Thread nD τ).loc main_arg0)) (m ((c : Thread nD τ).loc main_arg1)) (m ((c : Thread nD τ).loc main_arg2)) := by
  refine (dats (F := Ideal) m 0 c).arrAt_eq_of_covers 10 _ (by decide +kernel) fun t hf y => ?_
  blk_simp
  rw [after0_10]
  obtain ⟨q, a, k, rfl⟩ : ∃ (q : Fin 4) (a : Fin 512) (k : Fin 128), y = ix3 q a k := ⟨y 0, y 1, y 2, eq_ix3 y⟩
  rw [emb10]
  refine (block10 _ _ _ _ _ _ _).trans ?_
  exact groups_blk m c t _ _ _ _ q a k

/-- Where a point's block of output 11 lies in its array. -/
theorem emb11 (t : Fin cfg0.N) (q : Fin 4) (a : Fin 512) (k : Fin 128) :
    (win0_11.blk t).view.emb (ix3 q a k) = ix3 q (rowOf t a) k := by
  blk_ext [index_out t, rowOf]

/-- After the run: the neighbourhood's keys. -/
theorem final11 (c : Dev nD) : (dats (F := Ideal) m 0 c).arrAt 11 cfg0.N =
    grpArr 3584 128 (by omega) id
      (m ((c : Thread nD τ).loc main_arg0)) (m ((c : Thread nD τ).loc main_arg1)) (m ((c : Thread nD τ).loc main_arg2)) := by
  refine (dats (F := Ideal) m 0 c).arrAt_eq_of_covers 11 _ (by decide +kernel) fun t hf y => ?_
  blk_simp
  rw [after0_11]
  obtain ⟨q, a, k, rfl⟩ : ∃ (q : Fin 4) (a : Fin 512) (k : Fin 128), y = ix3 q a k := ⟨y 0, y 1, y 2, eq_ix3 y⟩
  rw [emb11]
  refine (block11 _ _ _ _ _ _ _).trans ?_
  exact groups_blk m c t _ _ _ _ q a k

/-- Where a point's block of output 12 lies in its array. -/
theorem emb12 (t : Fin cfg0.N) (q : Fin 4) (a : Fin 512) (k : Fin 128) :
    (win0_12.blk t).view.emb (ix3 q a k) = ix3 q (rowOf t a) k := by
  blk_ext [index_out t, rowOf]

/-- After the run: the neighbourhood's values. -/
theorem final12 (c : Dev nD) : (dats (F := Ideal) m 0 c).arrAt 12 cfg0.N =
    grpArr 4096 128 (by omega) id
      (m ((c : Thread nD τ).loc main_arg0)) (m ((c : Thread nD τ).loc main_arg1)) (m ((c : Thread nD τ).loc main_arg2)) := by
  refine (dats (F := Ideal) m 0 c).arrAt_eq_of_covers 12 _ (by decide +kernel) fun t hf y => ?_
  blk_simp
  rw [after0_12]
  obtain ⟨q, a, k, rfl⟩ : ∃ (q : Fin 4) (a : Fin 512) (k : Fin 128), y = ix3 q a k := ⟨y 0, y 1, y 2, eq_ix3 y⟩
  rw [emb12]
  refine (block12 _ _ _ _ _ _ _).trans ?_
  exact groups_blk m c t _ _ _ _ q a k

/-- Where a point's block of output 13 lies in its array. -/
theorem emb13 (t : Fin cfg0.N) (a : Fin 512) (k : Fin 1024) :
    (win0_13.blk t).view.emb (ix2 a k) = ix2 (rowOf t a) k := by
  blk_ext [index_out t, rowOf]

/-- After the run: the first gate columns. -/
theorem final13 (c : Dev nD) : (dats (F := Ideal) m 0 c).arrAt 13 cfg0.N =
    gateArr 4608 (by omega)
      (m ((c : Thread nD τ).loc main_arg0)) (m ((c : Thread nD τ).loc main_arg1)) (m ((c : Thread nD τ).loc main_arg2)) := by
  refine (dats (F := Ideal) m 0 c).arrAt_eq_of_covers 13 _ (by decide +kernel) fun t hf y => ?_
  blk_simp
  rw [after0_13]
  obtain ⟨a, k, rfl⟩ : ∃ (a : Fin 512) (k : Fin 1024), y = ix2 a k := ⟨y 0, y 1, eq_ix2 y⟩
  rw [emb13]
  refine (block13 _ _ _ _ _ _ _).trans ?_
  exact projAt_blk m c t a _

/-- Where a point's block of output 14 lies in its array. -/
theorem emb14 (t : Fin cfg0.N) (a : Fin 512) (k : Fin 1024) :
    (win0_14.blk t).view.emb (ix2 a k) = ix2 (rowOf t a) k := by
  blk_ext [index_out t, rowOf]

/-- After the run: the second gate columns. -/
theorem final14 (c : Dev nD) : (dats (F := Ideal) m 0 c).arrAt 14 cfg0.N =
    gateArr 5632 (by omega)
      (m ((c : Thread nD τ).loc main_arg0)) (m ((c : Thread nD τ).loc main_arg1)) (m ((c : Thread nD τ).loc main_arg2)) := by
  refine (dats (F := Ideal) m 0 c).arrAt_eq_of_covers 14 _ (by decide +kernel) fun t hf y => ?_
  blk_simp
  rw [after0_14]
  obtain ⟨a, k, rfl⟩ : ∃ (a : Fin 512) (k : Fin 1024), y = ix2 a k := ⟨y 0, y 1, eq_ix2 y⟩
  rw [emb14]
  refine (block14 _ _ _ _ _ _ _).trans ?_
  exact projAt_blk m c t a _

/-- Where a point's block of output 15 lies in its array. -/
theorem emb15 (t : Fin cfg0.N) (a : Fin 16) (k : Fin 5632) :
    (win0_15.blk t).view.emb (ix2 a k) = ix2 ⟨min t.val 63 * 16 + a.val, by omega⟩ k := by
  blk_ext [index_out t]

/-- After the run: the first weights. -/
theorem final15 (c : Dev nD) : (dats (F := Ideal) m 0 c).arrAt 15 cfg0.N =
    m ((c : Thread nD τ).loc main_arg3) := by
  refine (dats (F := Ideal) m 0 c).arrAt_eq_of_covers 15 _ (by decide +kernel) fun t hf y => ?_
  blk_simp
  rw [after0_15]
  obtain ⟨a, k, rfl⟩ : ∃ (a : Fin 16) (k : Fin 5632), y = ix2 a k := ⟨y 0, y 1, eq_ix2 y⟩
  rw [emb15]
  refine (block15 _ _ _ _ _ _ _).trans ?_
  exact in4 m c t a k

/-- Where a point's block of output 16 lies in its array. -/
theorem emb16 (t : Fin cfg0.N) (a : Fin 32) (k : Fin 1024) :
    (win0_16.blk t).view.emb (ix2 a k) = ix2 ⟨min t.val 87 * 32 + a.val, by omega⟩ k := by
  blk_ext [index_out t]

/-- After the run: the second weights. -/
theorem final16 (c : Dev nD) : (dats (F := Ideal) m 0 c).arrAt 16 cfg0.N =
    m ((c : Thread nD τ).loc main_arg4) := by
  refine (dats (F := Ideal) m 0 c).arrAt_eq_of_covers 16 _ (by decide +kernel) fun t hf y => ?_
  blk_simp
  rw [after0_16]
  obtain ⟨a, k, rfl⟩ : ∃ (a : Fin 32) (k : Fin 1024), y = ix2 a k := ⟨y 0, y 1, eq_ix2 y⟩
  rw [emb16]
  refine (block16 _ _ _ _ _ _ _).trans ?_
  exact in5 m c t a k

/-- The kernel's eleven results after its run, in terms of its arguments. -/
theorem kernel_run : θ_run defs (onTc (τ := τ) (main (F := Ideal))) ⟨m, fun _ => 0, ρ⟩ fun r => ∀ c : Dev nD,
      Results (m ((c : Thread nD τ).loc main_arg0)) (m ((c : Thread nD τ).loc main_arg1)) (m ((c : Thread nD τ).loc main_arg2)) (m ((c : Thread nD τ).loc main_arg3)) (m ((c : Thread nD τ).loc main_arg4))
        (r.2.mem ((c : Thread nD τ).loc main_v25_0)) (r.2.mem ((c : Thread nD τ).loc main_v25_1)) (r.2.mem ((c : Thread nD τ).loc main_v25_2)) (r.2.mem ((c : Thread nD τ).loc main_v25_3)) (r.2.mem ((c : Thread nD τ).loc main_v25_4)) (r.2.mem ((c : Thread nD τ).loc main_v25_5)) (r.2.mem ((c : Thread nD τ).loc main_v25_6)) (r.2.mem ((c : Thread nD τ).loc main_v25_7)) (r.2.mem ((c : Thread nD τ).loc main_v25_8)) (r.2.mem ((c : Thread nD τ).loc main_v25_9)) (r.2.mem ((c : Thread nD τ).loc main_v25_10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h6, h7, h8, h9, h10, h11, h12, h13, h14, h15, h16, kept⟩ := h c
    exact ⟨⟨h6.trans (final6 m c), h7.trans (final7 m c), h8.trans (final8 m c), h9.trans (final9 m c),
      h10.trans (final10 m c), h11.trans (final11 m c), h12.trans (final12 m c), h13.trans (final13 m c),
      h14.trans (final14 m c), h15.trans (final15 m c), h16.trans (final16 m c)⟩, kept⟩) (Cert.KInIdeal.Value.run_blocks m ρ)

end Cert.In

end

end
-- ==== Proof.InRef.lean ====
/-
  The reference's mixing projection, read at an element of each of its results.
-/
module

public import proofs.«01_k».proof.Proof.Gen.RInIdeal.Read
public import proofs.«01_k».proof.Proof.InMath

@[expose] public section

set_option maxRecDepth 16384

noncomputable section

namespace Cert.In

open Cert.RInIdeal Cert.RInIdeal.Gen Cert.RInIdeal.Read Idealize.ShloMosaic Idealize.ShloMosaic.TcCoe
  Idealize.SL.Sem Idealize.ShloMosaic.StableHlo Cert.RowMath

variable (x0 : FVec Ideal S65536x1024 .f32) (x1 : FVec Ideal S1x1024 .f32) (x2 : FVec Ideal S1024x6656 .bf16)

/-- Sequences and positions laid end to end, read at a row. -/
theorem rows_apply {α : Type} {n : ℕ} (x : (⟨4, ![4, 32, 2048, n]⟩ : Shape).Idx → α) (h) (q : Fin 4) (r : Fin 65536)
    (k : Fin n) : shapeCast ⟨3, ![4, 65536, n]⟩ x h (ix3 q r k) =
      x (ix4 q (seqOf r) (posOf r) k) :=
  shapeCast_apply x h _ _ (by
    rw [Shape.rowMajor_val_four, Shape.rowMajor_val_three]
    show ((q.val * 32 + (seqOf r).val) * 2048 + (posOf r).val) * n + k.val = (q.val * 65536 + r.val) * n + k.val
    rw [seqOf_val, posOf_val]
    congr 2
    omega)

theorem ref_proj (r : Fin 65536) (c : Fin 6656) : val_main_v13 (F := Ideal) x0 x1 x2 (ix2 r c) = projAt x0 x1 x2 r c := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The cosines of the queries' angles. -/
theorem ref_cos (p : Fin 2048) (e : Fin 64) : val_main_v36 (F := Ideal) (ix2 p e) = cosT p.val e := by
  pointwise [val_main_v36, val_main_v35, val_main_v34, val_main_v33, val_main_v32, val_main_v31, val_main_v30, val_main_v29,
    val_main_v28, val_main_v27, val_main_v26, val_main_v23, val_main_cst_2, val_main_cst_3, val_main_cst_4, val_main_cst_5,
    val_main_call0_v0, val_main_call0_v1, val_main_call0_v2, val_main_call0_cst, val_main_call0_v3, val_main_call0_v4, val_main_call0_cst_0, val_main_call0_v5, val_main_call0_v6, val_main_call0_v7, val_main_call0_cst_1, val_main_call0_v8, val_main_call0_v9, val_main_call0_v10, val_main_call0_v11, val_main_call0_v12, val_main_call0_v13, val_main_call0_v14, val_main_call0_v15, val_main_call0_v16]
  rfl

/-- The sines of the queries' angles. -/
theorem ref_sin (p : Fin 2048) (e : Fin 64) : val_main_v37 (F := Ideal) (ix2 p e) = sinT p.val e :=
  congrArg Ideal.sin (show val_main_v35 (F := Ideal) (ix2 p e) = angle p.val e by
    pointwise [val_main_v35, val_main_v34, val_main_v33, val_main_v32, val_main_v31, val_main_v30, val_main_v29,
      val_main_v28, val_main_v27, val_main_v26, val_main_v23, val_main_cst_2, val_main_cst_3, val_main_cst_4, val_main_cst_5,
      val_main_call0_v0, val_main_call0_v1, val_main_call0_v2, val_main_call0_cst, val_main_call0_v3, val_main_call0_v4, val_main_call0_cst_0, val_main_call0_v5, val_main_call0_v6, val_main_call0_v7, val_main_call0_cst_1, val_main_call0_v8, val_main_call0_v9, val_main_call0_v10, val_main_call0_v11, val_main_call0_v12, val_main_call0_v13, val_main_call0_v14, val_main_call0_v15, val_main_call0_v16]
    rfl)

/-- The queries of a sequence's position, rotated. -/
theorem ref_q (b : Fin 32) (q : Fin 4) (p : Fin 2048) (k : Fin 128) : val_main_v54 (F := Ideal) x0 x1 x2 (ix4 b q p k) =
    rot (fun d => groups 0 128 (by omega) id x0 x1 x2 q ⟨b.val * 2048 + p.val, by omega⟩ d) (cosT p.val) (sinT p.val) k := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v25, val_main_v24, val_main_v14, ref_proj, ref_cos, ref_sin]
  unfold rot groups
  by_cases h : k.val < 64
  · simp only [dif_pos h, id, Nat.zero_add, Nat.add_comm 64]
  · simp only [dif_neg h, id, Nat.zero_add, show 64 + (k.val - 64) = k.val by omega]

theorem ref_qT (q : Fin 4) (b : Fin 32) (p : Fin 2048) (k : Fin 128) : val_main_v88 (F := Ideal) x0 x1 x2 (ix4 q b p k) =
    val_main_v54 (F := Ideal) x0 x1 x2 (ix4 b q p k) := by
  pointwise [val_main_v88]

/-- The row of a row's sequence and position is the row. -/
theorem back (r : Fin 65536) (h) : (⟨(seqOf r).val * 2048 + (posOf r).val, h⟩ : Fin 65536) = r :=
  Fin.ext (by show (seqOf r).val * 2048 + (posOf r).val = r.val; rw [seqOf_val, posOf_val]; omega)

theorem truncf_self (v : EReal) (h) : FloatOps.truncf (F := Ideal) (φ := FTy.f32) .bf16 h v = v := rfl

theorem ref_rq (q : Fin 4) (r : Fin 65536) (k : Fin 128) : val_main_v90 (F := Ideal) x0 x1 x2 (ix3 q r k) =
    rot (fun d => groups 0 128 (by omega) id x0 x1 x2 q r d) (cosT (posOf r).val) (sinT (posOf r).val) k := by
  rw [val_main_v90_apply]
  unfold val_main_v89
  rw [rows_apply, truncf_self, ref_qT, ref_q]
  simp only [back]

/-- The cosines of the keys' angles. -/
theorem ref_cosK (p : Fin 2048) (e : Fin 64) : val_main_v67 (F := Ideal) (ix2 p e) = cosT p.val e := by
  pointwise [val_main_v67, val_main_v66, val_main_v65, val_main_v64, val_main_v63, val_main_v62, val_main_v61, val_main_v60,
    val_main_v59, val_main_v58, val_main_v57, val_main_v23, val_main_cst_6, val_main_cst_7, val_main_cst_8, val_main_cst_9,
    val_main_call1_v0, val_main_call1_v1, val_main_call1_v2, val_main_call1_cst, val_main_call1_v3, val_main_call1_v4, val_main_call1_cst_0, val_main_call1_v5, val_main_call1_v6, val_main_call1_v7, val_main_call1_cst_1, val_main_call1_v8, val_main_call1_v9, val_main_call1_v10, val_main_call1_v11, val_main_call1_v12, val_main_call1_v13, val_main_call1_v14, val_main_call1_v15, val_main_call1_v16]
  rfl

/-- The sines of the keys' angles. -/
theorem ref_sinK (p : Fin 2048) (e : Fin 64) : val_main_v68 (F := Ideal) (ix2 p e) = sinT p.val e :=
  congrArg Ideal.sin (show val_main_v66 (F := Ideal) (ix2 p e) = angle p.val e by
    pointwise [val_main_v66, val_main_v65, val_main_v64, val_main_v63, val_main_v62, val_main_v61, val_main_v60,
      val_main_v59, val_main_v58, val_main_v57, val_main_v23, val_main_cst_6, val_main_cst_7, val_main_cst_8, val_main_cst_9,
      val_main_call1_v0, val_main_call1_v1, val_main_call1_v2, val_main_call1_cst, val_main_call1_v3, val_main_call1_v4, val_main_call1_cst_0, val_main_call1_v5, val_main_call1_v6, val_main_call1_v7, val_main_call1_cst_1, val_main_call1_v8, val_main_call1_v9, val_main_call1_v10, val_main_call1_v11, val_main_call1_v12, val_main_call1_v13, val_main_call1_v14, val_main_call1_v15, val_main_call1_v16]
    rfl)

/-- The keys of a sequence's position, rotated. -/
theorem ref_k (b : Fin 32) (q : Fin 4) (p : Fin 2048) (k : Fin 128) : val_main_v85 (F := Ideal) x0 x1 x2 (ix4 b q p k) =
    rot (fun d => groups 512 128 (by omega) id x0 x1 x2 q ⟨b.val * 2048 + p.val, by omega⟩ d) (cosT p.val) (sinT p.val) k := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v56, val_main_v55, val_main_v15, ref_proj, ref_cosK, ref_sinK]
  unfold rot groups
  by_cases h : k.val < 64
  · simp only [dif_pos h, id, Nat.zero_add, Nat.add_comm 64]
  · simp only [dif_neg h, id, Nat.zero_add, show 64 + (k.val - 64) = k.val by omega]

theorem ref_kT (q : Fin 4) (b : Fin 32) (p : Fin 2048) (k : Fin 128) : val_main_v91 (F := Ideal) x0 x1 x2 (ix4 q b p k) =
    val_main_v85 (F := Ideal) x0 x1 x2 (ix4 b q p k) * keyScale := by
  pointwise [val_main_v91, val_main_v87, val_main_v86, val_main_cst_10]
  rfl

theorem ref_rk (q : Fin 4) (r : Fin 65536) (k : Fin 128) : val_main_v93 (F := Ideal) x0 x1 x2 (ix3 q r k) =
    rot (fun d => groups 512 128 (by omega) id x0 x1 x2 q r d) (cosT (posOf r).val) (sinT (posOf r).val) k * keyScale := by
  rw [val_main_v93_apply]
  unfold val_main_v92
  rw [rows_apply, truncf_self, ref_kT, ref_k]
  simp only [back]

theorem ref_rv (q : Fin 4) (r : Fin 65536) (k : Fin 256) : val_main_v98 (F := Ideal) x0 x1 x2 (ix3 q r k) =
    groups 1024 256 (by omega) id x0 x1 x2 q r k := by
  show shapeCast _ (val_main_v96 (F := Ideal) x0 x1 x2) _ (ix3 q r k) = _
  rw [rows_apply]
  pointwise [val_main_v96, val_main_v95, val_main_v94, val_main_v16, ref_proj, back]
  rfl

theorem ref_rg (q : Fin 4) (r : Fin 65536) (k : Fin 256) : val_main_v104 (F := Ideal) x0 x1 x2 (ix3 q r k) =
    groups 2048 256 (by omega) gate x0 x1 x2 q r k := by
  show shapeCast _ (val_main_v102 (F := Ideal) x0 x1 x2) _ (ix3 q r k) = _
  rw [rows_apply]
  pointwise [val_main_v102, val_main_v101, val_main_v100, val_main_v99, val_main_call2_v0, val_main_call2_v1, val_main_call2_cst, val_main_call2_v2, val_main_call2_v3, val_main_call2_cst_0, val_main_call2_v4, val_main_call2_v5, val_main_v17, ref_proj, back]
  rfl

theorem ref_nq (q : Fin 4) (r : Fin 65536) (k : Fin 128) : val_main_v111 (F := Ideal) x0 x1 x2 (ix3 q r k) =
    groups 3072 128 (by omega) (fun v => v * naScale) x0 x1 x2 q r k := by
  show shapeCast _ (val_main_v109 (F := Ideal) x0 x1 x2) _ (ix3 q r k) = _
  rw [rows_apply]
  pointwise [val_main_v109, val_main_v108, val_main_v107, val_main_v106, val_main_v105, val_main_cst_11, val_main_v18, ref_proj, back]
  rfl

theorem ref_nk (q : Fin 4) (r : Fin 65536) (k : Fin 128) : val_main_v116 (F := Ideal) x0 x1 x2 (ix3 q r k) =
    groups 3584 128 (by omega) id x0 x1 x2 q r k := by
  show shapeCast _ (val_main_v114 (F := Ideal) x0 x1 x2) _ (ix3 q r k) = _
  rw [rows_apply]
  pointwise [val_main_v114, val_main_v113, val_main_v112, val_main_v19, ref_proj, back]
  rfl

theorem ref_nv (q : Fin 4) (r : Fin 65536) (k : Fin 128) : val_main_v121 (F := Ideal) x0 x1 x2 (ix3 q r k) =
    groups 4096 128 (by omega) id x0 x1 x2 q r k := by
  show shapeCast _ (val_main_v119 (F := Ideal) x0 x1 x2) _ (ix3 q r k) = _
  rw [rows_apply]
  pointwise [val_main_v119, val_main_v118, val_main_v117, val_main_v20, ref_proj, back]
  rfl

theorem ref_gret (r : Fin 65536) (k : Fin 1024) : val_main_v122 (F := Ideal) x0 x1 x2 (ix2 r k) =
    projAt x0 x1 x2 r ⟨4608 + k.val, by omega⟩ := by
  pointwise [val_main_v122, val_main_v21, ref_proj, back]

theorem ref_gna (r : Fin 65536) (k : Fin 1024) : val_main_v123 (F := Ideal) x0 x1 x2 (ix2 r k) =
    projAt x0 x1 x2 r ⟨5632 + k.val, by omega⟩ := by
  pointwise [val_main_v123, val_main_v22, ref_proj, back]

/-- The reference's results after its run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Results (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (r.2.mem ((c.tc : Thread nD τ).loc main_v90)) (r.2.mem ((c.tc : Thread nD τ).loc main_v93)) (r.2.mem ((c.tc : Thread nD τ).loc main_v98))
          (r.2.mem ((c.tc : Thread nD τ).loc main_v104)) (r.2.mem ((c.tc : Thread nD τ).loc main_v111)) (r.2.mem ((c.tc : Thread nD τ).loc main_v116))
          (r.2.mem ((c.tc : Thread nD τ).loc main_v121)) (r.2.mem ((c.tc : Thread nD τ).loc main_v122)) (r.2.mem ((c.tc : Thread nD τ).loc main_v123))
          (r.2.mem ((c.tc : Thread nD τ).loc main_v124)) (r.2.mem ((c.tc : Thread nD τ).loc main_v125))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, h5, h6, h7, h8, h9, h10, hk⟩ := h c
    exact ⟨⟨h0.trans ((val_main_v90_eq (launchContents m c)).trans (funext fun i => by rw [eq_ix3 i]; exact ref_rq _ _ _ _ _ _)),
      h1.trans ((val_main_v93_eq (launchContents m c)).trans (funext fun i => by rw [eq_ix3 i]; exact ref_rk _ _ _ _ _ _)),
      h2.trans ((val_main_v98_eq (launchContents m c)).trans (funext fun i => by rw [eq_ix3 i]; exact ref_rv _ _ _ _ _ _)),
      h3.trans ((val_main_v104_eq (launchContents m c)).trans (funext fun i => by rw [eq_ix3 i]; exact ref_rg _ _ _ _ _ _)),
      h4.trans ((val_main_v111_eq (launchContents m c)).trans (funext fun i => by rw [eq_ix3 i]; exact ref_nq _ _ _ _ _ _)),
      h5.trans ((val_main_v116_eq (launchContents m c)).trans (funext fun i => by rw [eq_ix3 i]; exact ref_nk _ _ _ _ _ _)),
      h6.trans ((val_main_v121_eq (launchContents m c)).trans (funext fun i => by rw [eq_ix3 i]; exact ref_nv _ _ _ _ _ _)),
      h7.trans ((val_main_v122_eq (launchContents m c)).trans (funext fun i => by rw [eq_ix2 i]; exact ref_gret _ _ _ _ _)),
      h8.trans ((val_main_v123_eq (launchContents m c)).trans (funext fun i => by rw [eq_ix2 i]; exact ref_gna _ _ _ _ _)), h9, h10⟩, hk⟩) (Cert.RInIdeal.Value.run m ρ)

end Cert.In

end

end
-- ==== Proof.InClaim.lean ====
/-
  The mixing projection's kernel and the reference's lines before the two attentions give the same results over the reals.
-/
module

public import proofs.«01_k».proof.Defs
public import proofs.«01_k».proof.Proof.InFinal
public import proofs.«01_k».proof.Proof.InRef

@[expose] public section

noncomputable section

namespace Cert.In

open Idealize.ShloMosaic Idealize.SL.Sem

/-- The reference runs, leaves its arguments alone and has no semaphores. -/
theorem ref_frame : Cert.quiescent_RInIdeal (hRInIdeal := Cert.RInIdeal.Gen.facts) := fun m ρ _ =>
  (θ_run Cert.RInIdeal.defs _ _).mono (fun r h => ⟨fun c => (h c).2, sem_eq_zero_of_no_sems (by decide) r.2⟩)
    (ref_run m ρ)

/-- Both programs give the eleven results that the shared arguments determine. -/
theorem same : Cert.algebraic_KInIdeal_RInIdeal (hKInIdeal := Cert.KInIdeal.Gen.facts)
    (hRInIdeal := Cert.RInIdeal.Gen.facts) := fun m ρ m' ρ' _ hag =>
  ⟨_, _, _, _, _, _, _, _, _, _, _,
    (θ_run _ _ _).mono (fun _ h c => ⟨(h c).1.rq, (h c).1.rk, (h c).1.rv, (h c).1.rg, (h c).1.nq, (h c).1.nk, (h c).1.nv, (h c).1.gr, (h c).1.gn, (h c).1.wi, (h c).1.wo, (h c).2⟩) (kernel_run m ρ),
    (θ_run _ _ _).mono (fun _ h c => by
      obtain ⟨e0, e1, e2, e3, e4⟩ := hag c
      have h' := (h c).1
      rw [e0, e1, e2, e3, e4] at h'
      exact ⟨h'.rq, h'.rk, h'.rv, h'.rg, h'.nq, h'.nk, h'.nv, h'.gr, h'.gn, h'.wi, h'.wo, (h c).2⟩) (ref_run m' ρ')⟩

end Cert.In

end

end
-- ==== Proof.OutMath.lean ====
/-
  What the mixing output computes for one row: the two branches gated, added, projected, normed, and added to the row.
-/
module

public import proofs.«01_k».proof.Proof.RowMath

@[expose] public section

noncomputable section

namespace Cert.Out

open Idealize.ShloMosaic Cert.RowMath

/-- Four groups of `n` values laid side by side, read at a place of the long row. -/
theorem side_by_side {n N : ℕ} (hN : N = 4 * n) (f : Fin 4 → Fin n → EReal) (k : Fin N) (hn : 0 < n) :
    (if h : k.val < n then f 0 ⟨k.val, h⟩ else
      if h : k.val - n < n then f 1 ⟨k.val - n, h⟩ else
        if h : k.val - n - n < n then f 2 ⟨k.val - n - n, h⟩ else
          f 3 ⟨k.val - n - n - n, by have := k.isLt; omega⟩) =
      f ⟨k.val / n, Nat.div_lt_of_lt_mul (by have := k.isLt; rw [Nat.mul_comm]; omega)⟩ ⟨k.val % n, Nat.mod_lt _ hn⟩ := by
  have hk := k.isLt
  have e : ∀ (q : Fin 4) (s : ℕ) (hs : s < n), k.val = n * q.val + s →
      f q ⟨s, hs⟩ = f ⟨k.val / n, Nat.div_lt_of_lt_mul (by rw [Nat.mul_comm]; omega)⟩ ⟨k.val % n, Nat.mod_lt _ hn⟩ := by
    intro q s hs h
    congr 1
    · exact Fin.ext (by show q.val = k.val / n; rw [h, Nat.mul_add_div hn, Nat.div_eq_of_lt hs, Nat.add_zero])
    · exact Fin.ext (by show s = k.val % n; rw [h, Nat.mul_add_mod, Nat.mod_eq_of_lt hs])
  split_ifs with h0 h1 h2
  · exact e 0 _ _ (by simp)
  · exact e 1 _ _ (by simp; omega)
  · exact e 2 _ _ (by simp; omega)
  · exact e 3 _ _ (by simp; omega)

/-- One gated branch at a place: the logistic of the gate, times the branch's groups as one row through its matrix. -/
def branch (n : ℕ) {N : ℕ} (hN : N = 4 * n) (hn : 0 < n) (y : Fin 4 → Fin n → EReal) (a : Fin 1024 → EReal)
    (w : Fin N → Fin 1024 → EReal) (d : Fin 1024) : EReal :=
  Ideal.logistic (a d) * dot (fun k : Fin N => y ⟨k.val / n, Nat.div_lt_of_lt_mul (by have := k.isLt; rw [Nat.mul_comm]; omega)⟩
    ⟨k.val % n, Nat.mod_lt _ hn⟩) fun k => w k d

/-- Place `c` of the mixing output's row. -/
def row (x : Fin 1024 → EReal) (yr : Fin 4 → Fin 256 → EReal) (yn : Fin 4 → Fin 128 → EReal) (a b : Fin 1024 → EReal)
    (wr : Fin 1024 → Fin 1024 → EReal) (wn : Fin 512 → Fin 1024 → EReal) (wo : Fin 1024 → Fin 1024 → EReal)
    (g : Fin 1024 → EReal) (c : Fin 1024) : EReal :=
  x c + rms len eps (fun d => dot (fun e => branch 256 (N := 1024) rfl (by omega) yr a wr e +
    branch 128 (N := 512) rfl (by omega) yn b wn e) fun e => wo e d) g c

/-- The mixing output of every row of the arrays. -/
def arr (x0 : (⟨2, ![65536, 1024]⟩ : Shape).Idx → EReal) (x1 : (⟨3, ![4, 65536, 256]⟩ : Shape).Idx → EReal)
    (x2 : (⟨3, ![4, 65536, 128]⟩ : Shape).Idx → EReal) (x3 x4 : (⟨2, ![65536, 1024]⟩ : Shape).Idx → EReal)
    (x5 : (⟨2, ![1024, 1024]⟩ : Shape).Idx → EReal) (x6 : (⟨2, ![512, 1024]⟩ : Shape).Idx → EReal)
    (x7 : (⟨2, ![1024, 1024]⟩ : Shape).Idx → EReal) (x8 : (⟨2, ![1, 1024]⟩ : Shape).Idx → EReal) :
    (⟨2, ![65536, 1024]⟩ : Shape).Idx → EReal :=
  fun i => row (fun k => x0 (ix2 (i 0) k)) (fun q k => x1 (ix3 q (i 0) k)) (fun q k => x2 (ix3 q (i 0) k))
    (fun k => x3 (ix2 (i 0) k)) (fun k => x4 (ix2 (i 0) k)) (fun k d => x5 (ix2 k d)) (fun k d => x6 (ix2 k d))
    (fun k d => x7 (ix2 k d)) (fun k => x8 (ix2 0 k)) (i 1)

end Cert.Out

end

end
-- ==== Proof.OutBlock.lean ====
/-
  What one grid point of the mixing output kernel writes: rows of `Out.row` of the point's blocks.
-/
module

public import proofs.«01_k».proof.Proof.Gen.KOutIdeal.Value
public import proofs.«01_k».proof.Proof.OutMath
public import proofs.«01_k».proof.Proof.Bands
public import Idealize.ShloMosaic.Lib.Pipeline.ValueKit

@[expose] public section

set_option maxRecDepth 16384

noncomputable section

namespace Cert.Out

open Cert.KOutIdeal Cert.KOutIdeal.Gen Idealize.ShloMosaic Idealize.ShloMosaic.TcCoe Idealize.SL.Sem Cert.RowMath

/-- The mixing output of a block of 1024 rows, as one array. -/
def rowBlk (x0 : Vec Ideal S1024x1024 .f32) (x1 : Vec Ideal S4x1024x256 .bf16) (x2 : Vec Ideal S4x1024x128 .bf16)
    (x3 x4 x5 : Vec Ideal S1024x1024 .bf16) (x6 : Vec Ideal S512x1024 .bf16) (x7 : Vec Ideal S1024x1024 .bf16)
    (x8 : Vec Ideal S1x1024 .f32) : Vec Ideal S1024x1024 .f32 :=
  fun i => row (fun k => x0 (ix2 (i 0) k)) (fun q k => x1 (ix3 q (i 0) k)) (fun q k => x2 (ix3 q (i 0) k))
    (fun k => x3 (ix2 (i 0) k)) (fun k => x4 (ix2 (i 0) k)) (fun k d => x5 (ix2 k d)) (fun k d => x6 (ix2 k d))
    (fun k d => x7 (ix2 k d)) (fun k => x8 (ix2 0 k)) (i 1)

/-- The retention branch of a sub-tile: its four groups side by side through the matrix, gated. -/
theorem retTile_apply (y : Fin 4 → Vec Ideal S1x256x256 .bf16) (w : Vec Ideal S1024x1024 .bf16)
    (g : Vec Ideal S256x1024 .bf16) (r : Fin 256) (k : Fin 1024) :
    k0_pay3 (y 0) (y 1) (y 2) (y 3) w g (ix2 r k) =
      branch 256 (N := 1024) rfl (by omega) (fun q j => y q (ix3 0 r j)) (fun k => g (ix2 r k)) (fun k d => w (ix2 k d)) k := by
  pointwise [k0_pay3]
  simp only [side_by_side (n := 256) (N := 1024) rfl (fun q j => y q (ix3 0 r j)) _ (by omega)]
  rfl

/-- The attention branch of a sub-tile, before its gate. -/
theorem naTile_apply (y : Fin 4 → Vec Ideal S1x256x128 .bf16) (w : Vec Ideal S512x1024 .bf16) (a : FVec Ideal S256x1024 .f32)
    (g : Vec Ideal S256x1024 .bf16) (r : Fin 256) (k : Fin 1024) :
    k0_pay4 (k0_pay2 (y 0) (y 1) (y 2) (y 3) w) a g (ix2 r k) = a (ix2 r k) +
      branch 128 (N := 512) rfl (by omega) (fun q j => y q (ix3 0 r j)) (fun k => g (ix2 r k)) (fun k d => w (ix2 k d)) k := by
  pointwise [k0_pay4, k0_pay2]
  simp only [side_by_side (n := 128) (N := 512) rfl (fun q j => y q (ix3 0 r j)) _ (by omega)]
  rfl

/-- A sub-tile of the result, from its merged rows. -/
theorem outTile_apply (a : FVec Ideal S256x1024 .bf16) (w : Vec Ideal S1024x1024 .bf16) (x : Vec Ideal S256x1024 .f32)
    (g : Vec Ideal S1x1024 .f32) (r : Fin 256) (k : Fin 1024) :
    k0_pay8 a w x g (ix2 r k) =
      x (ix2 r k) + rms len eps (fun d => dot (fun j => a (ix2 r j)) fun j => w (ix2 j d)) (fun k => g (ix2 0 k)) k := by
  pointwise [k0_pay8]
  rfl

/-- A group's tile of rows from row `r`. -/
def grp {n : ℕ} {e : EltTy} (x : Vec Ideal ⟨3, ![4, 1024, n]⟩ e) (r : ℕ) (hr : r + 256 ≤ 1024) (q : Fin 4) :
    Vec Ideal ⟨3, ![1, 256, n]⟩ e :=
  View.ld x (Rect.unit (s := ⟨3, ![4, 1024, n]⟩) ![q.val, r, 0] ![1, 256, n] (by
    intro a; fin_cases a
    · show q.val + 1 ≤ 4; omega
    · exact hr
    · show 0 + n ≤ n; omega))

theorem grp_apply {n : ℕ} {e : EltTy} (x : Vec Ideal ⟨3, ![4, 1024, n]⟩ e) (r : ℕ) (hr : r + 256 ≤ 1024) (q : Fin 4)
    (a : Fin 256) (j : Fin n) : grp x r hr q (ix3 0 a j) = x (ix3 q ⟨r + a.val, by omega⟩ j) := by
  unfold grp
  refine congrArg x (funext fun d => Fin.ext ?_)
  match d with
  | ⟨0, _⟩ => show q.val + 1 * 0 = q.val; omega
  | ⟨1, _⟩ => show r + 1 * a.val = r + a.val; omega
  | ⟨2, _⟩ => show 0 + 1 * j.val = j.val; omega

/-- The sub-tile of the result that starts at row `r` is that block of `rowBlk`. -/
theorem out_piece (r : ℕ) (hr : r + 256 ≤ 1024) (x0 : Vec Ideal S1024x1024 .f32) (x1 : Vec Ideal S4x1024x256 .bf16)
    (x2 : Vec Ideal S4x1024x128 .bf16) (x3 x4 x5 : Vec Ideal S1024x1024 .bf16) (x6 : Vec Ideal S512x1024 .bf16)
    (x7 : Vec Ideal S1024x1024 .bf16) (x8 : Vec Ideal S1x1024 .f32) (x : S256x1024.Idx) :
    k0_pay8 (k0_pay4 (k0_pay2 (grp x2 r hr 0) (grp x2 r hr 1) (grp x2 r hr 2) (grp x2 r hr 3) x6)
        (k0_pay3 (grp x1 r hr 0) (grp x1 r hr 1) (grp x1 r hr 2) (grp x1 r hr 3) x5
          (View.ld x3 (Rect.unit ![r, 0] ![256, 1024] (Bands.inside hr (by omega)))))
        (View.ld x4 (Rect.unit ![r, 0] ![256, 1024] (Bands.inside hr (by omega))))) x7
        (View.ld x0 (Rect.unit ![r, 0] ![256, 1024] (Bands.inside hr (by omega)))) x8 x =
      rowBlk x0 x1 x2 x3 x4 x5 x6 x7 x8
        ((Rect.unit (s := S1024x1024) ![r, 0] ![256, 1024] (Bands.inside hr (by omega))).emb x) := by
  idx_vars x
  rw [outTile_apply]
  rw [Bands.emb_ix2 _ _ (by omega) (by omega)]
  simp only [naTile_apply, retTile_apply, grp_apply]
  pointwise [rowBlk, row]

/-- What one grid point leaves in its output block. -/
theorem block (x0 : Vec Ideal S1024x1024 .f32) (x1 : Vec Ideal S4x1024x256 .bf16)
    (x2 : Vec Ideal S4x1024x128 .bf16) (x3 x4 x5 : Vec Ideal S1024x1024 .bf16) (x6 : Vec Ideal S512x1024 .bf16)
    (x7 : Vec Ideal S1024x1024 .bf16) (x8 : Vec Ideal S1x1024 .f32) (y : S1024x1024.Idx) :
    out0_9 x0 x1 x2 x3 x4 x5 x6 x7 x8 y = rowBlk x0 x1 x2 x3 x4 x5 x6 x7 x8 y := by
  frame_out
  refine View.canon_append_of_piecesOf _ [] [_, _, _, _] ⟨?_, ?_, ?_, ?_, trivial⟩ y
    (View.cover_of_tiledL _ ![256, 1024] (by sl_kernel_rfl) y)
  all_goals
    intro x
    exact out_piece _ (by omega) x0 x1 x2 x3 x4 x5 x6 x7 x8 x

end Cert.Out

end

end
-- ==== Proof.OutRun.lean ====
/-
  The mixing output kernel's result array after the run: its blocks side by side are `Out.arr` of the arguments.
-/
module

public import proofs.«01_k».proof.Proof.OutBlock

@[expose] public section

set_option maxRecDepth 16384

noncomputable section

namespace Cert.Out

open Cert.KOutIdeal Cert.KOutIdeal.Gen Idealize.ShloMosaic Idealize.ShloMosaic.TcCoe Idealize.SL.Sem Cert.RowMath

variable (m : (ℓ : Loc nD τ sig) → Buf (Elt Ideal) ℓ) (ρ : Dev nD → PrngReg)

/-- Where each window's block lies at a grid point. -/
theorem index (t : Fin grid0.N) : win0_0.index t = ![t.val, 0] ∧ win0_1.index t = ![0, t.val, 0] ∧
    win0_2.index t = ![0, t.val, 0] ∧ win0_3.index t = ![t.val, 0] ∧ win0_4.index t = ![t.val, 0] ∧
    win0_5.index t = ![0, 0] ∧ win0_6.index t = ![0, 0] ∧ win0_7.index t = ![0, 0] ∧ win0_8.index t = ![0, 0] ∧
    win0_9.index t = ![t.val, 0] :=
  (by decide +kernel : ∀ t : Fin grid0.N, win0_0.index t = ![t.val, 0] ∧ win0_1.index t = ![0, t.val, 0] ∧
    win0_2.index t = ![0, t.val, 0] ∧ win0_3.index t = ![t.val, 0] ∧ win0_4.index t = ![t.val, 0] ∧
    win0_5.index t = ![0, 0] ∧ win0_6.index t = ![0, 0] ∧ win0_7.index t = ![0, 0] ∧ win0_8.index t = ![0, 0] ∧
    win0_9.index t = ![t.val, 0]) t

/-- There are 64 grid points. -/
theorem point_lt (t : Fin cfg0.N) : t.val < 64 := lt_of_lt_of_eq t.isLt (by decide +kernel : grid0.N = 64)

theorem in0 (c : Dev nD) (t : Fin cfg0.N) (a k : Fin 1024) : iblk (F := Ideal) m c 0 t (ix2 a k) =
    m ((c : Thread nD τ).loc main_arg0) (ix2 ⟨t.val * 1024 + a.val, by have := point_lt t; omega⟩ k) := by
  blk_ext [iblk, V, index t]

theorem in1 (c : Dev nD) (t : Fin cfg0.N) (q : Fin 4) (a : Fin 1024) (k : Fin 256) : iblk (F := Ideal) m c 1 t (ix3 q a k) =
    m ((c : Thread nD τ).loc main_arg1) (ix3 q ⟨t.val * 1024 + a.val, by have := point_lt t; omega⟩ k) := by
  blk_ext [iblk, V, index t]

theorem in2 (c : Dev nD) (t : Fin cfg0.N) (q : Fin 4) (a : Fin 1024) (k : Fin 128) : iblk (F := Ideal) m c 2 t (ix3 q a k) =
    m ((c : Thread nD τ).loc main_arg2) (ix3 q ⟨t.val * 1024 + a.val, by have := point_lt t; omega⟩ k) := by
  blk_ext [iblk, V, index t]

theorem in3 (c : Dev nD) (t : Fin cfg0.N) (a k : Fin 1024) : iblk (F := Ideal) m c 3 t (ix2 a k) =
    m ((c : Thread nD τ).loc main_arg3) (ix2 ⟨t.val * 1024 + a.val, by have := point_lt t; omega⟩ k) := by
  blk_ext [iblk, V, index t]

theorem in4 (c : Dev nD) (t : Fin cfg0.N) (a k : Fin 1024) : iblk (F := Ideal) m c 4 t (ix2 a k) =
    m ((c : Thread nD τ).loc main_arg4) (ix2 ⟨t.val * 1024 + a.val, by have := point_lt t; omega⟩ k) := by
  blk_ext [iblk, V, index t]

theorem in5 (c : Dev nD) (t : Fin cfg0.N) (k d : Fin 1024) :
    iblk (F := Ideal) m c 5 t (ix2 k d) = m ((c : Thread nD τ).loc main_arg5) (ix2 k d) := by
  blk_ext [iblk, V, index t]

theorem in6 (c : Dev nD) (t : Fin cfg0.N) (k : Fin 512) (d : Fin 1024) :
    iblk (F := Ideal) m c 6 t (ix2 k d) = m ((c : Thread nD τ).loc main_arg6) (ix2 k d) := by
  blk_ext [iblk, V, index t]

theorem in7 (c : Dev nD) (t : Fin cfg0.N) (k d : Fin 1024) :
    iblk (F := Ideal) m c 7 t (ix2 k d) = m ((c : Thread nD τ).loc main_arg7) (ix2 k d) := by
  blk_ext [iblk, V, index t]

theorem in8 (c : Dev nD) (t : Fin cfg0.N) (k : Fin 1024) :
    iblk (F := Ideal) m c 8 t (ix2 0 k) = m ((c : Thread nD τ).loc main_arg8) (ix2 0 k) := by
  blk_ext [iblk, V, index t]

/-- Where a point's output block lies in the result. -/
theorem out_emb (t : Fin cfg0.N) (a k : Fin 1024) : (win0_9.blk t).view.emb (ix2 a k) =
    ix2 ⟨t.val * 1024 + a.val, by have := point_lt t; omega⟩ k := by
  blk_ext [index t]

/-- The result array after the run. -/
theorem final (c : Dev nD) : (dats (F := Ideal) m 0 c).arrAt 9 cfg0.N =
    arr (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) := by
  refine (dats (F := Ideal) m 0 c).arrAt_eq_of_covers 9 _ (by decide +kernel) fun t hf y => ?_
  blk_simp
  rw [after0_9]
  obtain ⟨a, k, rfl⟩ : ∃ (a k : Fin 1024), y = ix2 a k := ⟨y 0, y 1, eq_ix2 y⟩
  rw [out_emb]
  refine (block _ _ _ _ _ _ _ _ _ _).trans ?_
  simp only [rowBlk, arr]
  simp only [in5, in6, in7, in8]
  show row (fun k => iblk m c 0 t (ix2 a k)) (fun q k => iblk m c 1 t (ix3 q a k)) (fun q k => iblk m c 2 t (ix3 q a k))
    (fun k => iblk m c 3 t (ix2 a k)) (fun k => iblk m c 4 t (ix2 a k)) _ _ _ _ k = _
  simp only [in0, in1, in2, in3, in4]
  rfl

/-- The kernel's result after its run is the mixing output of every row. -/
theorem kernel_run : θ_run defs (onTc (τ := τ) (main (F := Ideal))) ⟨m, fun _ => 0, ρ⟩ fun r => ∀ c : Dev nD,
      r.2.mem ((c : Thread nD τ).loc main_v0) =
          arr (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Cert.KOutIdeal.Value.run_blocks m ρ)

end Cert.Out

end

end
-- ==== Proof.OutRef.lean ====
/-
  The reference's mixing output, read at an element: `Out.row` of the element's row.
-/
module

public import proofs.«01_k».proof.Proof.Gen.ROutIdeal.Read
public import proofs.«01_k».proof.Proof.OutMath

@[expose] public section

set_option maxRecDepth 16384

noncomputable section

namespace Cert.Out

open Cert.ROutIdeal Cert.ROutIdeal.Gen Cert.ROutIdeal.Read Idealize.ShloMosaic Idealize.ShloMosaic.TcCoe
  Idealize.SL.Sem Cert.RowMath

variable (x0 : FVec Ideal S65536x1024 .f32) (x1 : FVec Ideal S4x65536x256 .bf16) (x2 : FVec Ideal S4x65536x128 .bf16)
  (x3 x4 : FVec Ideal S65536x1024 .bf16) (x5 : FVec Ideal S1024x1024 .bf16) (x6 : FVec Ideal S512x1024 .bf16)
  (x7 : FVec Ideal S1024x1024 .bf16) (x8 : FVec Ideal S1x1024 .f32)

theorem ref_ret (r : Fin 65536) (d : Fin 1024) : val_main_v17 (F := Ideal) x1 x3 x5 (ix2 r d) =
    branch 256 (N := 1024) rfl (by omega) (fun q j => x1 (ix3 q r j)) (fun k => x3 (ix2 r k)) (fun k d => x5 (ix2 k d)) d := by
  pointwise [val_main_v17, val_main_v16, val_main_v15, val_main_v14, val_main_v13, val_main_v12, val_main_v11,
    val_main_v10, val_main_cst, val_main_cst_0, val_main_v4, val_main_v3, val_main_v2, val_main_v1, val_main_v0]
  rfl

theorem ref_na (r : Fin 65536) (d : Fin 1024) : val_main_v25 (F := Ideal) x2 x4 x6 (ix2 r d) =
    branch 128 (N := 512) rfl (by omega) (fun q j => x2 (ix3 q r j)) (fun k => x4 (ix2 r k)) (fun k d => x6 (ix2 k d)) d := by
  pointwise [val_main_v25, val_main_v24, val_main_v23, val_main_v22, val_main_v21, val_main_v20, val_main_v19,
    val_main_v18, val_main_cst_1, val_main_cst_2, val_main_v9, val_main_v8, val_main_v7, val_main_v6, val_main_v5]
  rfl

theorem ref_row (r : Fin 65536) (c : Fin 1024) :
    val_main_v41 (F := Ideal) x0 x1 x2 x3 x4 x5 x6 x7 x8 (ix2 r c) = arr x0 x1 x2 x3 x4 x5 x6 x7 x8 (ix2 r c) := by
  pointwise [val_main_v41, val_main_v40, val_main_v39, val_main_v38, val_main_v37, val_main_v36, val_main_v35,
    val_main_v34, val_main_v33, val_main_v32, val_main_v31, val_main_v30, val_main_v29, val_main_v28,
    val_main_v27, val_main_v26, val_main_cst_3, val_main_cst_4, val_main_cst_5, ref_ret, ref_na]
  rfl

/-- The reference's result after its run is the mixing output of every row. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) =
          arr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val_main_v41_eq m c).symm.trans (funext fun i => by
    rw [eq_ix2 i]; exact ref_row _ _ _ _ _ _ _ _ _ _ _)), (h c).2⟩) (Cert.ROutIdeal.Value.run m ρ)

end Cert.Out

end

end
-- ==== Proof.OutClaim.lean ====
/-
  The mixing output kernel and the reference's mixing output lines give the same result over the reals.
-/
module

public import proofs.«01_k».proof.Defs
public import proofs.«01_k».proof.Proof.OutRun
public import proofs.«01_k».proof.Proof.OutRef

@[expose] public section

noncomputable section

namespace Cert.Out

open Idealize.ShloMosaic Idealize.SL.Sem

/-- The reference runs, leaves its arguments alone and has no semaphores. -/
theorem ref_frame : Cert.quiescent_ROutIdeal (hROutIdeal := Cert.ROutIdeal.Gen.facts) := fun m ρ _ =>
  (θ_run Cert.ROutIdeal.defs _ _).mono (fun r h => ⟨fun c => (h c).2, sem_eq_zero_of_no_sems (by decide) r.2⟩)
    (ref_run m ρ)

/-- Both results are the mixing output of the rows of the arguments they share. -/
theorem same : Cert.algebraic_KOutIdeal_ROutIdeal (hKOutIdeal := Cert.KOutIdeal.Gen.facts)
    (hROutIdeal := Cert.ROutIdeal.Gen.facts) := fun m ρ m' ρ' _ hag =>
  ⟨_, kernel_run m ρ,
    (θ_run _ _ _).mono (fun _ h c => ⟨(h c).1.trans (by
      obtain ⟨e0, e1, e2, e3, e4, e5, e6, e7, e8⟩ := hag c
      rw [e0, e1, e2, e3, e4, e5, e6, e7, e8]), (h c).2⟩) (ref_run m' ρ')⟩

end Cert.Out

end

end
-- ==== Proof.lean ====
/- The proof of everything this directory claims. -/
module

public import proofs.«01_k».proof.Defs
public import proofs.«01_k».proof.Proof.Gen.KFfn
public import proofs.«01_k».proof.Proof.Gen.KFfn.Skeleton
public import proofs.«01_k».proof.Proof.Gen.KFfn.Launch
public import proofs.«01_k».proof.Proof.Gen.KFfn.Points
public import proofs.«01_k».proof.Proof.Gen.KFfn.Frame
public import proofs.«01_k».proof.Proof.Gen.KFfnIdeal
public import proofs.«01_k».proof.Proof.Gen.KFfnIdeal.Skeleton
public import proofs.«01_k».proof.Proof.Gen.KFfnIdeal.Launch
public import proofs.«01_k».proof.Proof.Gen.KFfnIdeal.Points
public import proofs.«01_k».proof.Proof.Gen.KFfnIdeal.Frame
public import proofs.«01_k».proof.Proof.Gen.RFfnIdeal
public import proofs.«01_k».proof.Proof.Gen.KFfnIdeal.Value
public import proofs.«01_k».proof.Proof.Gen.RFfnIdeal.Run
public import proofs.«01_k».proof.Proof.Gen.RFfnIdeal.Read
public import proofs.«01_k».proof.Proof.FfnClaim
public import proofs.«01_k».proof.Proof.Gen.KIn
public import proofs.«01_k».proof.Proof.Gen.KIn.Skeleton
public import proofs.«01_k».proof.Proof.Gen.KIn.Launch
public import proofs.«01_k».proof.Proof.Gen.KIn.Points
public import proofs.«01_k».proof.Proof.Gen.KIn.Frame
public import proofs.«01_k».proof.Proof.Gen.KInIdeal
public import proofs.«01_k».proof.Proof.Gen.KInIdeal.Skeleton
public import proofs.«01_k».proof.Proof.Gen.KInIdeal.Launch
public import proofs.«01_k».proof.Proof.Gen.KInIdeal.Points
public import proofs.«01_k».proof.Proof.Gen.KInIdeal.Frame
public import proofs.«01_k».proof.Proof.Gen.RInIdeal
public import proofs.«01_k».proof.Proof.Gen.KInIdeal.Value
public import proofs.«01_k».proof.Proof.Gen.RInIdeal.Run
public import proofs.«01_k».proof.Proof.Gen.RInIdeal.Read
public import proofs.«01_k».proof.Proof.InClaim
public import proofs.«01_k».proof.Proof.Gen.KOut
public import proofs.«01_k».proof.Proof.Gen.KOut.Skeleton
public import proofs.«01_k».proof.Proof.Gen.KOut.Launch
public import proofs.«01_k».proof.Proof.Gen.KOut.Points
public import proofs.«01_k».proof.Proof.Gen.KOut.Frame
public import proofs.«01_k».proof.Proof.Gen.KOutIdeal
public import proofs.«01_k».proof.Proof.Gen.KOutIdeal.Skeleton
public import proofs.«01_k».proof.Proof.Gen.KOutIdeal.Launch
public import proofs.«01_k».proof.Proof.Gen.KOutIdeal.Points
public import proofs.«01_k».proof.Proof.Gen.KOutIdeal.Frame
public import proofs.«01_k».proof.Proof.Gen.ROutIdeal
public import proofs.«01_k».proof.Proof.Gen.KOutIdeal.Value
public import proofs.«01_k».proof.Proof.Gen.ROutIdeal.Run
public import proofs.«01_k».proof.Proof.Gen.ROutIdeal.Read
public import proofs.«01_k».proof.Proof.OutClaim
public import proofs.«01_k».proof.Proof.Gen.KRet
public import proofs.«01_k».proof.Proof.Gen.KRet.Skeleton
public import proofs.«01_k».proof.Proof.Gen.KRet.Launch
public import proofs.«01_k».proof.Proof.Gen.KRet.Points
public import proofs.«01_k».proof.Proof.Gen.KRet.Frame
public import proofs.«01_k».proof.Proof.Gen.KRetIdeal
public import proofs.«01_k».proof.Proof.Gen.KRetIdeal.Skeleton
public import proofs.«01_k».proof.Proof.Gen.KRetIdeal.Launch
public import proofs.«01_k».proof.Proof.Gen.KRetIdeal.Points
public import proofs.«01_k».proof.Proof.Gen.KRetIdeal.Frame
public import Idealize.ShloMosaic.Adequacy
public import Idealize.ShloMosaic.Init

@[expose] public section

noncomputable section

namespace Cert.Proof

open Idealize.ShloMosaic Idealize.SL.Sem

theorem claim : Cert.Claim := ⟨Cert.KFfn.Gen.facts,
  Cert.KFfnIdeal.Gen.facts,
  Cert.RFfnIdeal.Gen.facts,
  Cert.KIn.Gen.facts,
  Cert.KInIdeal.Gen.facts,
  Cert.RInIdeal.Gen.facts,
  Cert.KOut.Gen.facts,
  Cert.KOutIdeal.Gen.facts,
  Cert.ROutIdeal.Gen.facts,
  Cert.KRet.Gen.facts,
  Cert.KRetIdeal.Gen.facts,
  fun m ρ _ => Cert.KFfn.Gen.frame m ρ,
  fun m ρ _ => Cert.KFfnIdeal.Gen.frame m ρ,
  Cert.Ffn.ref_frame,
  fun m ρ _ => Cert.KIn.Gen.frame m ρ,
  fun m ρ _ => Cert.KInIdeal.Gen.frame m ρ,
  Cert.In.ref_frame,
  fun m ρ _ => Cert.KOut.Gen.frame m ρ,
  fun m ρ _ => Cert.KOutIdeal.Gen.frame m ρ,
  Cert.Out.ref_frame,
  fun m ρ _ => Cert.KRet.Gen.frame m ρ,
  fun m ρ _ => Cert.KRetIdeal.Gen.frame m ρ,
  trivial, Cert.Ffn.same,
  trivial, Cert.In.same,
  trivial, Cert.Out.same,
  trivial⟩

end Cert.Proof

end
